-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_biases [hPre_zero_biases : Cert.Pre_zero_biases.Facts] (m : (ℓ : Loc Cert.KernelIdeal.nD Cert.KernelIdeal.τ Cert.KernelIdeal.sig) → Buf (Elt Ideal) ℓ) : Prop :=
  ∀ c : Dev Cert.KernelIdeal.nD,
    (Cert.Pre_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_biases [hPre_zero_biases : Cert.Pre_zero_biases.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_zero_biases [hKernelIdeal : Cert.KernelIdeal.Facts] [hPre_zero_biases : Cert.Pre_zero_biases.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_biases m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_zero_biases [hReferenceIdeal : Cert.ReferenceIdeal.Facts] [hPre_zero_biases : Cert.Pre_zero_biases.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_biases m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_zero_biases [hKernelIdeal : Cert.KernelIdeal.Facts] [hReferenceIdeal : Cert.ReferenceIdeal.Facts] [hPre_zero_biases : Cert.Pre_zero_biases.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_biases m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_cst)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_cst) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_v183) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_zero_biases : Cert.Pre_zero_biases.Facts),
    quiescent_Kernel (hKernel := hKernel)
    ∧ quiescent_KernelIdeal (hKernelIdeal := hKernelIdeal)
    ∧ quiescent_KernelIdeal_pre_zero_biases (hKernelIdeal := hKernelIdeal) (hPre_zero_biases := hPre_zero_biases)
    ∧ quiescent_ReferenceIdeal (hReferenceIdeal := hReferenceIdeal)
    ∧ quiescent_ReferenceIdeal_pre_zero_biases (hReferenceIdeal := hReferenceIdeal) (hPre_zero_biases := hPre_zero_biases)
    ∧ preserves_Kernel_KernelIdeal
    ∧ algebraic_KernelIdeal_ReferenceIdeal_pre_zero_biases (hKernelIdeal := hKernelIdeal) (hReferenceIdeal := hReferenceIdeal) (hPre_zero_biases := hPre_zero_biases)
-- ==== Pre_zero_biases.lean ====
abbrev S2x2048x1024 : Shape := ⟨3, ![2, 2048, 1024]⟩
abbrev S8x1024 : Shape := ⟨2, ![8, 1024]⟩
abbrev S8 : Shape := ⟨1, ![8]⟩
abbrev S8x2048x1024 : Shape := ⟨3, ![8, 2048, 1024]⟩
abbrev S8x2048 : Shape := ⟨2, ![8, 2048]⟩
abbrev S8x1024x2048 : Shape := ⟨3, ![8, 1024, 2048]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel
  bcast_S_S8x2048 : S_.BroadcastsInDim S8x2048 (![] : Fin 0 → Fin S8x2048.rank)
  reducesTo_S8x2048_S_d0_1 : S8x2048.ReducesTo [0, 1] S_
  bcast_S_S8x1024 : S_.BroadcastsInDim S8x1024 (![] : Fin 0 → Fin S8x1024.rank)
  reducesTo_S8x1024_S_d0_1 : S8x1024.ReducesTo [0, 1] S_

variable [Facts]

def fn {F : FTy → Type} [FloatOps F] (main_arg0 : FVec F S2x2048x1024 .f32) (main_arg1 : FVec F S8x1024 .f32) (main_arg2 : FVec F S8 .f32) (main_arg3 : FVec F S8x2048x1024 .f32) (main_arg4 : FVec F S8x2048 .f32) (main_arg5 : FVec F S8x1024x2048 .f32) (main_arg6 : FVec F S8x1024 .f32) : IVec S_ 1 :=
  let main_cst : FVec F S_ .f32 := constant S_ .f32 0x00000000#32
  let main_v0 : FVec F S8 .f32 := broadcastInDim S8 ![] bcast_S_S8 main_cst
  let main_v1 : IVec S8 1 := cmpf .oeq main_arg2 main_v0
  let main_c : IVec S_ 1 := constantI S_ 1 1#1
  let main_v2 : IVec S_ 1 := (fun x v => Host.reduce IntOp.andi x v reducesTo_S8_S_d0 h_S_) main_v1 main_c
  let main_cst_0 : FVec F S_ .f32 := constant S_ .f32 0x00000000#32
  let main_v3 : FVec F S8x2048 .f32 := broadcastInDim S8x2048 ![] bcast_S_S8x2048 main_cst_0
  let main_v4 : IVec S8x2048 1 := cmpf .oeq main_arg4 main_v3
  let main_c_1 : IVec S_ 1 := constantI S_ 1 1#1
  let main_v5 : IVec S_ 1 := (fun x v => Host.reduce IntOp.andi x v reducesTo_S8x2048_S_d0_1 h_S_) main_v4 main_c_1
  let main_v6 : IVec S_ 1 := andi main_v2 main_v5
  let main_cst_2 : FVec F S_ .f32 := constant S_ .f32 0x00000000#32
  let main_v7 : FVec F S8x1024 .f32 := broadcastInDim S8x1024 ![] bcast_S_S8x1024 main_cst_2
  let main_v8 : IVec S8x1024 1 := cmpf .oeq main_arg6 main_v7
  let main_c_3 : IVec S_ 1 := constantI S_ 1 1#1
  let main_v9 : IVec S_ 1 := (fun x v => Host.reduce IntOp.andi x v reducesTo_S8x1024_S_d0_1 h_S_) main_v8 main_c_3
  let main_v10 : IVec S_ 1 := andi main_v6 main_v9
  main_v10
-- ==== Kernel.lean ====
abbrev S2x2048x1024 : Shape := ⟨3, ![2, 2048, 1024]⟩
abbrev S8x1024 : Shape := ⟨2, ![8, 1024]⟩
abbrev S8 : Shape := ⟨1, ![8]⟩
abbrev S8x2048x1024 : Shape := ⟨3, ![8, 2048, 1024]⟩
abbrev S8x2048 : Shape := ⟨2, ![8, 2048]⟩
abbrev S8x1024x2048 : Shape := ⟨3, ![8, 1024, 2048]⟩
abbrev S4096x1024 : Shape := ⟨2, ![4096, 1024]⟩
abbrev S512x1024 : Shape := ⟨2, ![512, 1024]⟩
abbrev S1x2048x1024 : Shape := ⟨3, ![1, 2048, 1024]⟩
abbrev S1x1024x2048 : Shape := ⟨3, ![1, 1024, 2048]⟩
abbrev S512x8 : Shape := ⟨2, ![512, 8]⟩
abbrev S512 : Shape := ⟨1, ![512]⟩
abbrev S512x1 : Shape := ⟨2, ![512, 1]⟩
abbrev S2048x1024 : Shape := ⟨2, ![2048, 1024]⟩
abbrev S512x2048 : Shape := ⟨2, ![512, 2048]⟩
abbrev S1024x2048 : Shape := ⟨2, ![1024, 2048]⟩
abbrev S_ : Shape := ⟨0, ![]⟩

abbrev nBuf : Space → Nat
  | .hbm => 11
  | .vmem => 9
  | .smem => 0
  | _ => 0

abbrev bufTy : (tb : Table) → Fin (tcTables nBuf tb) → BufTy
  | .hbm, ⟨0, _⟩ => ⟨S2x2048x1024, .f32⟩
  | .hbm, ⟨1, _⟩ => ⟨S8x1024, .f32⟩
  | .hbm, ⟨2, _⟩ => ⟨S8, .f32⟩
  | .hbm, ⟨3, _⟩ => ⟨S8x2048x1024, .f32⟩
  | .hbm, ⟨4, _⟩ => ⟨S8x2048, .f32⟩
  | .hbm, ⟨5, _⟩ => ⟨S8x1024x2048, .f32⟩
  | .hbm, ⟨6, _⟩ => ⟨S8x1024, .f32⟩
  | .hbm, ⟨7, _⟩ => ⟨S4096x1024, .f32⟩
  | .hbm, ⟨8, _⟩ => ⟨S4096x1024, .f32⟩
  | .hbm, ⟨9, _⟩ => ⟨S2x2048x1024, .f32⟩
  | .hbm, ⟨10, _⟩ => ⟨S_, .f32⟩
  | .local _ .vmem, ⟨0, _⟩ => ⟨S512x1024, .f32⟩
  | .local _ .vmem, ⟨1, _⟩ => ⟨S8x1024, .f32⟩
  | .local _ .vmem, ⟨2, _⟩ => ⟨S1x2048x1024, .f32⟩
  | .local _ .vmem, ⟨3, _⟩ => ⟨S1x2048x1024, .f32⟩
  | .local _ .vmem, ⟨4, _⟩ => ⟨S1x1024x2048, .f32⟩
  | .local _ .vmem, ⟨5, _⟩ => ⟨S1x1024x2048, .f32⟩
  | .local _ .vmem, ⟨6, _⟩ => ⟨S512x1024, .f32⟩
  | .local _ .vmem, ⟨7, _⟩ => ⟨S512x1024, .f32⟩
  | .local _ .vmem, ⟨8, _⟩ => ⟨S512x8, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond4 (i : grid0.Coords) : BitVec 1 :=
  let arg1 : BitVec 32 := BitVec.ofNat 32 (i 1).val
  let c0_i32_20 : BitVec 32 := 0#32
  let v40 : BitVec 1 := Scalar.cmpi .eq arg1 c0_i32_20
  let v41 : BitVec 32 := Scalar.extui v40
  let c0_i32_21 : BitVec 32 := 0#32
  let v42 : BitVec 1 := Scalar.cmpi .ne v41 c0_i32_21
  v42

def k0_cond5 (i : grid0.Coords) : BitVec 1 :=
  let arg1 : BitVec 32 := BitVec.ofNat 32 (i 1).val
  let c0_i32_22 : BitVec 32 := 0#32
  let v43 : BitVec 1 := Scalar.cmpi .sgt arg1 c0_i32_22
  let v44 : BitVec 32 := Scalar.extui v43
  let c0_i32_23 : BitVec 32 := 0#32
  let v45 : BitVec 1 := Scalar.cmpi .ne v44 c0_i32_23
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let c1_i32_0 : BitVec 32 := 1#32
  let v1 : BitVec 32 := Scalar.addi arg1 c1_i32_0
  let c7_i32 : BitVec 32 := 7#32
  let v2 : BitVec 32 := Scalar.minsi v1 c7_i32
  let v3 : BitVec 32 := Scalar.muli v0 v2
  let c0_i32 : BitVec 32 := 0#32
  let c0_i32_1 : BitVec 32 := 0#32
  ![v3.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S2x2048x1024 : Shape := ⟨3, ![2, 2048, 1024]⟩
abbrev S8x1024 : Shape := ⟨2, ![8, 1024]⟩
abbrev S8 : Shape := ⟨1, ![8]⟩
abbrev S8x2048x1024 : Shape := ⟨3, ![8, 2048, 1024]⟩
abbrev S8x2048 : Shape := ⟨2, ![8, 2048]⟩
abbrev S8x1024x2048 : Shape := ⟨3, ![8, 1024, 2048]⟩
abbrev S4096x1024 : Shape := ⟨2, ![4096, 1024]⟩
abbrev S1024x8 : Shape := ⟨2, ![1024, 8]⟩
abbrev S4096x8 : Shape := ⟨2, ![4096, 8]⟩
abbrev S1x8 : Shape := ⟨2, ![1, 8]⟩
abbrev S_ : Shape := ⟨0, ![]⟩
abbrev S4096 : Shape := ⟨1, ![4096]⟩
abbrev S4096x1 : Shape := ⟨2, ![4096, 1]⟩
abbrev S32768 : Shape := ⟨1, ![32768]⟩
abbrev S1x32768 : Shape := ⟨2, ![1, 32768]⟩
abbrev S8x1 : Shape := ⟨2, ![8, 1]⟩
abbrev S8x32768 : Shape := ⟨2, ![8, 32768]⟩
abbrev S32768x1 : Shape := ⟨2, ![32768, 1]⟩
abbrev S32768x2 : Shape := ⟨2, ![32768, 2]⟩
abbrev S32768x1024 : Shape := ⟨2, ![32768, 1024]⟩
abbrev S8x512x1024 : Shape := ⟨3, ![8, 512, 1024]⟩
abbrev S9 : Shape := ⟨1, ![9]⟩
abbrev S8x512x2048 : Shape := ⟨3, ![8, 512, 2048]⟩
abbrev S8x1x2048 : Shape := ⟨3, ![8, 1, 2048]⟩
abbrev S8x1x1024 : Shape := ⟨3, ![8, 1, 1024]⟩
abbrev S512 : Shape := ⟨1, ![512]⟩
abbrev S1x512 : Shape := ⟨2, ![1, 512]⟩
abbrev S8x512 : Shape := ⟨2, ![8, 512]⟩
abbrev S8x512x1 : Shape := ⟨3, ![8, 512, 1]⟩

abbrev nBuf : Space → Nat
  | .hbm => 264
  | .vmem => 0
  | .smem => 0
  | _ => 0

abbrev hbmTy0_0 (i : Nat) : BufTy := match i % 128 with
  | 0 => ⟨S2x2048x1024, .f32⟩
  | 1 => ⟨S8x1024, .f32⟩
  | 2 => ⟨S8, .f32⟩
  | 3 => ⟨S8x2048x1024, .f32⟩
  | 4 => ⟨S8x2048, .f32⟩
  | 5 => ⟨S8x1024x2048, .f32⟩
  | 6 => ⟨S8x1024, .f32⟩
  | 7 => ⟨S4096x1024, .f32⟩
  | 8 => ⟨S1024x8, .f32⟩
  | 9 => ⟨S4096x8, .f32⟩
  | 10 => ⟨S1x8, .f32⟩
  | 11 => ⟨S4096x8, .f32⟩
  | 12 => ⟨S4096x8, .f32⟩
  | 13 => ⟨S_, .f32⟩
  | 14 => ⟨S4096, .f32⟩
  | 15 => ⟨S_, .f32⟩
  | 16 => ⟨S4096, .f32⟩
  | 17 => ⟨S4096, .f32⟩
  | 18 => ⟨S4096x1, .f32⟩
  | 19 => ⟨S4096x8, .f32⟩
  | 20 => ⟨S4096x8, .f32⟩
  | 21 => ⟨S4096x8, .f32⟩
  | 22 => ⟨S_, .f32⟩
  | 23 => ⟨S4096, .f32⟩
  | 24 => ⟨S4096x1, .f32⟩
  | 25 => ⟨S4096x8, .f32⟩
  | 26 => ⟨S4096x8, .f32⟩
  | 27 => ⟨S4096x8, .f32⟩
  | 28 => ⟨S4096x8, .i32⟩
  | 29 => ⟨S_, .f32⟩
  | 30 => ⟨S4096, .f32⟩
  | 31 => ⟨S4096x1, .f32⟩
  | 32 => ⟨S_, .f32⟩
  | 33 => ⟨S4096x1, .f32⟩
  | 34 => ⟨S4096x1, .f32⟩
  | 35 => ⟨S4096x8, .f32⟩
  | 36 => ⟨S4096x8, .f32⟩
  | 37 => ⟨S32768, .i32⟩
  | 38 => ⟨S32768, .f32⟩
  | 39 => ⟨S1x32768, .i32⟩
  | 40 => ⟨S8, .i32⟩
  | 41 => ⟨S8x1, .i32⟩
  | 42 => ⟨S8x32768, .i32⟩
  | 43 => ⟨S8x32768, .i32⟩
  | 44 => ⟨S8x32768, .i1⟩
  | 45 => ⟨S8x32768, .i32⟩
  | 46 => ⟨S_, .i32⟩
  | 47 => ⟨S_, .i32⟩
  | 48 => ⟨S8x32768, .i32⟩
  | 49 => ⟨S_, .i32⟩
  | 50 => ⟨S8x32768, .i32⟩
  | 51 => ⟨S8x32768, .i32⟩
  | 52 => ⟨S32768, .i32⟩
  | 53 => ⟨S_, .i32⟩
  | 54 => ⟨S32768, .i32⟩
  | 55 => ⟨S32768, .i1⟩
  | 56 => ⟨S_, .i32⟩
  | 57 => ⟨S32768, .i32⟩
  | 58 => ⟨S32768, .i32⟩
  | 59 => ⟨S32768, .i32⟩
  | 60 => ⟨S_, .i32⟩
  | 61 => ⟨S32768, .i32⟩
  | 62 => ⟨S32768, .i1⟩
  | 63 => ⟨S_, .i32⟩
  | 64 => ⟨S32768, .i32⟩
  | 65 => ⟨S32768, .i32⟩
  | 66 => ⟨S32768, .i32⟩
  | 67 => ⟨S32768x1, .i32⟩
  | 68 => ⟨S32768x1, .i32⟩
  | 69 => ⟨S32768x2, .i32⟩
  | 70 => ⟨S32768, .i32⟩
  | 71 => ⟨S_, .i32⟩
  | 72 => ⟨S32768, .i32⟩
  | 73 => ⟨S32768, .i1⟩
  | 74 => ⟨S32768, .f32⟩
  | 75 => ⟨S32768, .i32⟩
  | 76 => ⟨S_, .i32⟩
  | 77 => ⟨S_, .i32⟩
  | 78 => ⟨S32768, .i32⟩
  | 79 => ⟨S32768, .i32⟩
  | 80 => ⟨S32768, .i32⟩
  | 81 => ⟨S_, .i32⟩
  | 82 => ⟨S32768, .i32⟩
  | 83 => ⟨S32768, .i1⟩
  | 84 => ⟨S32768, .i32⟩
  | 85 => ⟨S32768, .i32⟩
  | 86 => ⟨S_, .i32⟩
  | 87 => ⟨S32768, .i32⟩
  | 88 => ⟨S32768, .i1⟩
  | 89 => ⟨S32768, .i1⟩
  | 90 => ⟨S_, .i32⟩
  | 91 => ⟨S32768, .i32⟩
  | 92 => ⟨S32768, .i32⟩
  | 93 => ⟨S32768, .i32⟩
  | 94 => ⟨S_, .i32⟩
  | 95 => ⟨S32768, .i32⟩
  | 96 => ⟨S32768, .i32⟩
  | 97 => ⟨S_, .i32⟩
  | 98 => ⟨S32768, .i32⟩
  | 99 => ⟨S32768, .i1⟩
  | 100 => ⟨S_, .i32⟩
  | 101 => ⟨S32768, .i32⟩
  | 102 => ⟨S32768, .i32⟩
  | 103 => ⟨S32768, .i32⟩
  | 104 => ⟨S32768x1, .i32⟩
  | 105 => ⟨S32768x1024, .f32⟩
  | 106 => ⟨S32768, .f32⟩
  | 107 => ⟨S32768x1, .f32⟩
  | 108 => ⟨S32768x1024, .f32⟩
  | 109 => ⟨S32768x1024, .f32⟩
  | 110 => ⟨S_, .f32⟩
  | 111 => ⟨S8x512x1024, .f32⟩
  | 112 => ⟨S_, .i32⟩
  | 113 => ⟨S32768, .i32⟩
  | 114 => ⟨S32768, .i1⟩
  | 115 => ⟨S_, .i32⟩
  | 116 => ⟨S32768, .i32⟩
  | 117 => ⟨S32768, .i32⟩
  | 118 => ⟨S32768, .i32⟩
  | 119 => ⟨S_, .i32⟩
  | 120 => ⟨S32768, .i32⟩
  | 121 => ⟨S32768, .i1⟩
  | 122 => ⟨S_, .i32⟩
  | 123 => ⟨S32768, .i32⟩
  | 124 => ⟨S32768, .i32⟩
  | 125 => ⟨S32768, .i32⟩
  | 126 => ⟨S32768x1, .i32⟩
  | 127 => ⟨S32768x1, .i32⟩
  | _ => ⟨S2x2048x1024, .f32⟩

abbrev hbmTy0_1 (i : Nat) : BufTy := match i % 128 with
  | 0 => ⟨S32768x2, .i32⟩
  | 1 => ⟨S8x512x1024, .f32⟩
  | 2 => ⟨S_, .i32⟩
  | 3 => ⟨S_, .i32⟩
  | 4 => ⟨S32768, .i32⟩
  | 5 => ⟨S32768, .i32⟩
  | 6 => ⟨S_, .i32⟩
  | 7 => ⟨S9, .i32⟩
  | 8 => ⟨S_, .i32⟩
  | 9 => ⟨S_, .i32⟩
  | 10 => ⟨S32768, .i32⟩
  | 11 => ⟨S32768, .i32⟩
  | 12 => ⟨S_, .i32⟩
  | 13 => ⟨S32768, .i32⟩
  | 14 => ⟨S32768, .i1⟩
  | 15 => ⟨S_, .i32⟩
  | 16 => ⟨S32768, .i32⟩
  | 17 => ⟨S32768, .i32⟩
  | 18 => ⟨S32768, .i32⟩
  | 19 => ⟨S32768x1, .i32⟩
  | 20 => ⟨S_, .i32⟩
  | 21 => ⟨S32768, .i32⟩
  | 22 => ⟨S9, .i32⟩
  | 23 => ⟨S8, .i32⟩
  | 24 => ⟨S_, .i32⟩
  | 25 => ⟨S8, .i32⟩
  | 26 => ⟨S8, .i32⟩
  | 27 => ⟨S8x512x2048, .f32⟩
  | 28 => ⟨S8x1x2048, .f32⟩
  | 29 => ⟨S8x512x2048, .f32⟩
  | 30 => ⟨S8x512x2048, .f32⟩
  | 31 => ⟨S8x512x2048, .f32⟩
  | 32 => ⟨S8x512x2048, .f32⟩
  | 33 => ⟨S_, .f32⟩
  | 34 => ⟨S8x512x2048, .f32⟩
  | 35 => ⟨S8x512x2048, .f32⟩
  | 36 => ⟨S8x512x2048, .f32⟩
  | 37 => ⟨S_, .f32⟩
  | 38 => ⟨S8x512x2048, .f32⟩
  | 39 => ⟨S8x512x2048, .f32⟩
  | 40 => ⟨S8x512x2048, .f32⟩
  | 41 => ⟨S_, .f32⟩
  | 42 => ⟨S8x512x2048, .f32⟩
  | 43 => ⟨S8x512x2048, .f32⟩
  | 44 => ⟨S_, .f32⟩
  | 45 => ⟨S8x512x2048, .f32⟩
  | 46 => ⟨S8x512x2048, .f32⟩
  | 47 => ⟨S8x512x2048, .f32⟩
  | 48 => ⟨S8x512x1024, .f32⟩
  | 49 => ⟨S8x1x1024, .f32⟩
  | 50 => ⟨S8x512x1024, .f32⟩
  | 51 => ⟨S8x512x1024, .f32⟩
  | 52 => ⟨S512, .i32⟩
  | 53 => ⟨S1x512, .i32⟩
  | 54 => ⟨S8x1, .i32⟩
  | 55 => ⟨S8x512, .i32⟩
  | 56 => ⟨S8x512, .i32⟩
  | 57 => ⟨S8x512, .i1⟩
  | 58 => ⟨S8x512, .f32⟩
  | 59 => ⟨S8x512x1, .f32⟩
  | 60 => ⟨S8x512x1024, .f32⟩
  | 61 => ⟨S8x512x1024, .f32⟩
  | 62 => ⟨S_, .i32⟩
  | 63 => ⟨S32768, .i32⟩
  | 64 => ⟨S32768, .i1⟩
  | 65 => ⟨S_, .i32⟩
  | 66 => ⟨S32768, .i32⟩
  | 67 => ⟨S32768, .i32⟩
  | 68 => ⟨S32768, .i32⟩
  | 69 => ⟨S_, .i32⟩
  | 70 => ⟨S32768, .i32⟩
  | 71 => ⟨S32768, .i1⟩
  | 72 => ⟨S_, .i32⟩
  | 73 => ⟨S32768, .i32⟩
  | 74 => ⟨S32768, .i32⟩
  | 75 => ⟨S32768, .i32⟩
  | 76 => ⟨S32768x1, .i32⟩
  | 77 => ⟨S32768x1, .i32⟩
  | 78 => ⟨S32768x2, .i32⟩
  | 79 => ⟨S32768x1024, .f32⟩
  | 80 => ⟨S32768x1, .f32⟩
  | 81 => ⟨S32768x1024, .f32⟩
  | 82 => ⟨S32768x1024, .f32⟩
  | 83 => ⟨S_, .f32⟩
  | 84 => ⟨S4096x1024, .f32⟩
  | 85 => ⟨S_, .i32⟩
  | 86 => ⟨S32768, .i32⟩
  | 87 => ⟨S32768, .i1⟩
  | 88 => ⟨S_, .i32⟩
  | 89 => ⟨S32768, .i32⟩
  | 90 => ⟨S32768, .i32⟩
  | 91 => ⟨S32768, .i32⟩
  | 92 => ⟨S32768x1, .i32⟩
  | 93 => ⟨S4096x1024, .f32⟩
  | 94 => ⟨S2x2048x1024, .f32⟩
  | 95 => ⟨S_, .f32⟩
  | 96 => ⟨S4096x8, .f32⟩
  | 97 => ⟨S4096, .i32⟩
  | 98 => ⟨S4096x8, .i32⟩
  | 99 => ⟨S32768, .i32⟩
  | 100 => ⟨S_, .i32⟩
  | 101 => ⟨S32768, .i32⟩
  | 102 => ⟨S32768, .i1⟩
  | 103 => ⟨S_, .i32⟩
  | 104 => ⟨S32768, .i32⟩
  | 105 => ⟨S32768, .i32⟩
  | 106 => ⟨S32768, .i32⟩
  | 107 => ⟨S_, .i32⟩
  | 108 => ⟨S32768, .i32⟩
  | 109 => ⟨S32768, .i1⟩
  | 110 => ⟨S_, .i32⟩
  | 111 => ⟨S32768, .i32⟩
  | 112 => ⟨S32768, .i32⟩
  | 113 => ⟨S32768, .i32⟩
  | 114 => ⟨S32768x1, .i32⟩
  | 115 => ⟨S32768x1, .i32⟩
  | 116 => ⟨S32768x2, .i32⟩
  | 117 => ⟨S_, .f32⟩
  | 118 => ⟨S32768, .f32⟩
  | 119 => ⟨S4096x8, .f32⟩
  | 120 => ⟨S_, .f32⟩
  | 121 => ⟨S8, .f32⟩
  | 122 => ⟨S_, .f32⟩
  | 123 => ⟨S_, .f32⟩
  | 124 => ⟨S8, .f32⟩
  | 125 => ⟨S8, .f32⟩
  | 126 => ⟨S_, .f32⟩
  | 127 => ⟨S8, .f32⟩
  | _ => ⟨S2x2048x1024, .f32⟩

abbrev hbmTy0_2 (i : Nat) : BufTy := match i % 128 with
  | 0 => ⟨S8, .f32⟩
  | 1 => ⟨S8, .f32⟩
  | 2 => ⟨S8, .f32⟩
  | 3 => ⟨S8, .f32⟩
  | 4 => ⟨S_, .f32⟩
  | 5 => ⟨S_, .f32⟩
  | 6 => ⟨S_, .f32⟩
  | 7 => ⟨S_, .f32⟩
  | _ => ⟨S2x2048x1024, .f32⟩

abbrev hbmTy (i : Nat) : BufTy := match i / 128 with
  | 0 => hbmTy0_0 i
  | 1 => hbmTy0_1 i
  | 2 => hbmTy0_2 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_values : Ref sig .tc := ⟨.hbm, 27, rfl⟩
abbrev main_indices : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call0_call0_c : Ref sig .tc := ⟨.hbm, 46, rfl⟩
abbrev main_call0_call0_v0 : Ref sig .tc := ⟨.hbm, 47, rfl⟩
abbrev main_v32 : Ref sig .tc := ⟨.hbm, 48, rfl⟩
abbrev main_c : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_4 : Ref sig .tc := ⟨.hbm, 53, rfl⟩
abbrev main_v36 : Ref sig .tc := ⟨.hbm, 54, rfl⟩
abbrev main_v37 : Ref sig .tc := ⟨.hbm, 55, rfl⟩
abbrev main_c_5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_6 : Ref sig .tc := ⟨.hbm, 60, rfl⟩
abbrev main_v41 : Ref sig .tc := ⟨.hbm, 61, rfl⟩
abbrev main_v42 : Ref sig .tc := ⟨.hbm, 62, rfl⟩
abbrev main_c_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_8 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_9 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_v6 : Ref sig .tc := ⟨.hbm, 83, rfl⟩
abbrev main_call1_v7 : Ref sig .tc := ⟨.hbm, 84, rfl⟩
abbrev main_call1_v8 : Ref sig .tc := ⟨.hbm, 85, rfl⟩
abbrev main_call1_c : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_c_0 : Ref sig .tc := ⟨.hbm, 90, rfl⟩
abbrev main_call1_v12 : Ref sig .tc := ⟨.hbm, 91, rfl⟩
abbrev main_call1_v13 : Ref sig .tc := ⟨.hbm, 92, rfl⟩
abbrev main_v54 : Ref sig .tc := ⟨.hbm, 93, rfl⟩
abbrev main_c_10 : Ref sig .tc := ⟨.hbm, 94, rfl⟩
abbrev main_v55 : Ref sig .tc := ⟨.hbm, 95, rfl⟩
abbrev main_v56 : Ref sig .tc := ⟨.hbm, 96, rfl⟩
abbrev main_c_11 : Ref sig .tc := ⟨.hbm, 97, rfl⟩
abbrev main_v57 : Ref sig .tc := ⟨.hbm, 98, rfl⟩
abbrev main_v58 : Ref sig .tc := ⟨.hbm, 99, rfl⟩
abbrev main_c_12 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_cst_13 : Ref sig .tc := ⟨.hbm, 110, rfl⟩
abbrev main_v68 : Ref sig .tc := ⟨.hbm, 111, rfl⟩
abbrev main_c_14 : Ref sig .tc := ⟨.hbm, 112, rfl⟩
abbrev main_v69 : Ref sig .tc := ⟨.hbm, 113, rfl⟩
abbrev main_v70 : Ref sig .tc := ⟨.hbm, 114, rfl⟩
abbrev main_c_15 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_c_16 : Ref sig .tc := ⟨.hbm, 119, rfl⟩
abbrev main_v74 : Ref sig .tc := ⟨.hbm, 120, rfl⟩
abbrev main_v75 : Ref sig .tc := ⟨.hbm, 121, rfl⟩
abbrev main_c_17 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_c_18 : Ref sig .tc := ⟨.hbm, 130, rfl⟩
abbrev main_call2_v0 : Ref sig .tc := ⟨.hbm, 131, rfl⟩
abbrev main_call2_v1 : Ref sig .tc := ⟨.hbm, 132, rfl⟩
abbrev main_v83 : Ref sig .tc := ⟨.hbm, 133, rfl⟩
abbrev main_c_19 : Ref sig .tc := ⟨.hbm, 134, rfl⟩
abbrev main_v84 : Ref sig .tc := ⟨.hbm, 135, rfl⟩
abbrev main_c_20 : Ref sig .tc := ⟨.hbm, 136, rfl⟩
abbrev main_call3_v0 : Ref sig .tc := ⟨.hbm, 137, rfl⟩
abbrev main_call3_v1 : Ref sig .tc := ⟨.hbm, 138, rfl⟩
abbrev main_v85 : Ref sig .tc := ⟨.hbm, 139, rfl⟩
abbrev main_c_21 : Ref sig .tc := ⟨.hbm, 140, rfl⟩
abbrev main_v86 : Ref sig .tc := ⟨.hbm, 141, rfl⟩
abbrev main_v87 : Ref sig .tc := ⟨.hbm, 142, rfl⟩
abbrev main_c_22 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_c_23 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_c_24 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_cst_25 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_cst_26 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_cst_27 : Ref sig .tc := ⟨.hbm, 169, rfl⟩
abbrev main_v109 : Ref sig .tc := ⟨.hbm, 170, rfl⟩
abbrev main_v110 : Ref sig .tc := ⟨.hbm, 171, rfl⟩
abbrev main_cst_28 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_c_29 : Ref sig .tc := ⟨.hbm, 190, rfl⟩
abbrev main_v128 : Ref sig .tc := ⟨.hbm, 191, rfl⟩
abbrev main_v129 : Ref sig .tc := ⟨.hbm, 192, rfl⟩
abbrev main_c_30 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_c_31 : Ref sig .tc := ⟨.hbm, 197, rfl⟩
abbrev main_v133 : Ref sig .tc := ⟨.hbm, 198, rfl⟩
abbrev main_v134 : Ref sig .tc := ⟨.hbm, 199, rfl⟩
abbrev main_c_32 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_cst_33 : Ref sig .tc := ⟨.hbm, 211, rfl⟩
abbrev main_v145 : Ref sig .tc := ⟨.hbm, 212, rfl⟩
abbrev main_c_34 : Ref sig .tc := ⟨.hbm, 213, rfl⟩
abbrev main_v146 : Ref sig .tc := ⟨.hbm, 214, rfl⟩
abbrev main_v147 : Ref sig .tc := ⟨.hbm, 215, rfl⟩
abbrev main_c_35 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_cst_36 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_c_37 : Ref sig .tc := ⟨.hbm, 228, rfl⟩
abbrev main_v158 : Ref sig .tc := ⟨.hbm, 229, rfl⟩
abbrev main_v159 : Ref sig .tc := ⟨.hbm, 230, rfl⟩
abbrev main_c_38 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_c_39 : Ref sig .tc := ⟨.hbm, 235, rfl⟩
abbrev main_v163 : Ref sig .tc := ⟨.hbm, 236, rfl⟩
abbrev main_v164 : Ref sig .tc := ⟨.hbm, 237, rfl⟩
abbrev main_c_40 : Ref sig .tc := ⟨.hbm, 238, rfl⟩
abbrev main_v165 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_cst_41 : Ref sig .tc := ⟨.hbm, 245, rfl⟩
abbrev main_v171 : Ref sig .tc := ⟨.hbm, 246, rfl⟩
abbrev main_v172 : Ref sig .tc := ⟨.hbm, 247, rfl⟩
abbrev main_cst_42 : Ref sig .tc := ⟨.hbm, 248, rfl⟩
abbrev main_v173 : Ref sig .tc := ⟨.hbm, 249, rfl⟩
abbrev main_cst_43 : Ref sig .tc := ⟨.hbm, 250, rfl⟩
abbrev main_v174 : Ref sig .tc := ⟨.hbm, 251, rfl⟩
abbrev main_v175 : Ref sig .tc := ⟨.hbm, 252, rfl⟩
abbrev main_v176 : Ref sig .tc := ⟨.hbm, 253, rfl⟩
abbrev main_cst_44 : Ref sig .tc := ⟨.hbm, 254, rfl⟩
abbrev main_v177 : Ref sig .tc := ⟨.hbm, 255, rfl⟩
abbrev main_v178 : Ref sig .tc := ⟨.hbm, 256, rfl⟩
abbrev main_v179 : Ref sig .tc := ⟨.hbm, 257, rfl⟩
abbrev main_v180 : Ref sig .tc := ⟨.hbm, 258, rfl⟩
abbrev main_v181 : Ref sig .tc := ⟨.hbm, 259, rfl⟩
abbrev main_cst_45 : Ref sig .tc := ⟨.hbm, 260, rfl⟩
abbrev main_v182 : Ref sig .tc := ⟨.hbm, 261, rfl⟩
abbrev main_cst_46 : Ref sig .tc := ⟨.hbm, 262, rfl⟩
abbrev main_v183 : Ref sig .tc := ⟨.hbm, 263, rfl⟩

abbrev nD : Nat := 1
abbrev τ : Topo := Topo.v7x

variable {F : FTy → Type} [FloatOps F]
-- ==== Proof.KernelRuns.lean ====
/- The body of the MoE kernel run once per case of its conditionals, with what it stores NAMED:
   points of the first phase clear the output block; point 8 computes the gate weights and stores the first
   expert's contribution; later points add their expert's contribution to what the block holds. -/
module

public import proofs.«01_k».proof.Proof.Gen.KernelIdeal.Frame
public import proofs.«01_k».proof.Proof.Gen.KernelIdeal.Skeleton
public import Idealize.ShloMosaic.Lib.Pipeline.Value
public import Idealize.ShloMosaic.Lib.Tactic

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions in closed form -/

/-- The first-phase test holds at the points before point 8. -/
theorem phase0_iff (t : Fin cfg0.N) : k0_cond1 (grid0.coords t) = 1#1 ↔ t.val < 8 := by
  have ht : t.val < 16 := Nat.lt_of_lt_of_eq t.isLt N_0
  have e0 : (grid0.coords t 0).val = t.val / 8 % 2 := Pipeline.Grid.coords_val t 0 (by decide) rfl
  simp only [k0_cond1, e0]
  word_cmp

/-- The second-phase test holds at the points from point 8 on. -/
theorem phase1_iff (t : Fin cfg0.N) : k0_cond2 (grid0.coords t) = 1#1 ↔ 8 ≤ t.val := by
  have ht : t.val < 16 := Nat.lt_of_lt_of_eq t.isLt N_0
  have e0 : (grid0.coords t 0).val = t.val / 8 % 2 := Pipeline.Grid.coords_val t 0 (by decide) rfl
  simp only [k0_cond2, e0]
  word_cmp

/-- The test `expert = 0`, as the part of the body spells it. -/
abbrev firstExpert (i : grid0.Coords) : Prop :=
  (Scalar.cmpi .ne (Scalar.extui (Scalar.cmpi .eq (BitVec.ofNat 32 (i 1).val) 0#32)) 0#32) = 1#1

/-- It holds at points 0 and 8. -/
theorem firstExpert_iff (t : Fin cfg0.N) : firstExpert (grid0.coords t) ↔ t.val % 8 = 0 := by
  have ht : t.val < 16 := Nat.lt_of_lt_of_eq t.isLt N_0
  have e1 : (grid0.coords t 1).val = t.val / 1 % 8 := Pipeline.Grid.coords_val t 1 (by decide) rfl
  simp only [firstExpert, e1]
  word_cmp

/-- The same test as the body spells it where it stores the first contribution. -/
theorem storeFirst_iff (t : Fin cfg0.N) : k0_cond4 (grid0.coords t) = 1#1 ↔ t.val % 8 = 0 := by
  have ht : t.val < 16 := Nat.lt_of_lt_of_eq t.isLt N_0
  have e1 : (grid0.coords t 1).val = t.val / 1 % 8 := Pipeline.Grid.coords_val t 1 (by decide) rfl
  simp only [k0_cond4, e1]
  word_cmp

/-- The test `expert > 0`, where the body accumulates. -/
theorem accumulate_iff (t : Fin cfg0.N) : k0_cond5 (grid0.coords t) = 1#1 ↔ 1 ≤ t.val % 8 := by
  have ht : t.val < 16 := Nat.lt_of_lt_of_eq t.isLt N_0
  have e1 : (grid0.coords t 1).val = t.val / 1 % 8 := Pipeline.Grid.coords_val t 1 (by decide) rfl
  simp only [k0_cond5, e1]
  word_cmp

/-- The zero offsets of a whole rank-2 access. -/
theorem zero2 : (![0, 0] : Fin 2 → Nat) = fun _ => 0 := funext fun a => by fin_cases a <;> rfl
/-- The zero offsets of a whole rank-3 access. -/
theorem zero3 : (![0, 0, 0] : Fin 3 → Nat) = fun _ => 0 := funext fun a => by fin_cases a <;> rfl

/-! ## Whole-buffer stores -/

/-- A buffer left at one whole store reads as what was stored. -/
theorem read_whole_store {S : Shape} {e : EltTy} {κ : Kind} {sp : Space} (v : View sig κ sp S e)
    (f : v.ty.Contents (Elt F)) {off : Fin S.rank → Nat} (h : off = fun _ => 0)
    (inb : ∀ a, off a + S.size a ≤ S.size a) (w : S.Idx → Elt F e) :
    v.read (Elt F) (v.writes (Elt F) f [(⟨Rect.unit off S.size inb, w⟩ : View.Piece (Elt F) S e)]) = w := by
  subst h
  exact View.read_writes_whole v f w

set_option maxHeartbeats 1000000 in
/-- A point of the first phase leaves zeros in the output block and the scratch as it was. -/
theorem run_clear (c : Dev nD) (i : grid0.Coords) (arg2 : Memref sig .tc .vmem S512x1024 .f32) (harg2 : arg2.IsWhole) (arg3 : Memref sig .tc .vmem S8x1024 .f32) (harg3 : arg3.IsWhole) (arg4 : Memref sig .tc .vmem S1x2048x1024 .f32) (harg4 : arg4.IsWhole) (arg5 : Memref sig .tc .vmem S1x1024x2048 .f32) (harg5 : arg5.IsWhole) (arg6 : Memref sig .tc .vmem S512x1024 .f32) (harg6 : arg6.IsWhole) (arg7 : Memref sig .tc .vmem S512x8 .f32) (harg7 : arg7.IsWhole)
    (hc0 : k0_cond1 i = 1#1) (hc1 : ¬k0_cond2 i = 1#1)
    (x0 : Vec F S512x1024 .f32) (x1 : Vec F S8x1024 .f32) (x2 : Vec F S1x2048x1024 .f32) (x3 : Vec F S1x1024x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay1 (F := F)) ∗ (∃ d, owns (c : Thread nD τ) arg7 fullShare d)) -∗ K ⟨⟩))
      ⊢ wp frame (wpE (defs₀ (F := F)) Variants.none c none) E (cc0__moe_body i arg2 harg2 arg3 harg3 arg4 harg4 arg5 harg5 arg6 harg6 arg7 harg7) K := by
  simp only [cc0__moe_body_eq_skeleton]; unfold cc0__moe_body_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro; exact read_whole_store (S := S512x1024) _ _ zero2 _ _
  iexists _, _; isplitr; swap; · iexact HS0
  ipureintro; rfl

set_option maxHeartbeats 1000000 in
/-- Point 8 leaves the gate weights in the scratch and the first expert's contribution in the output block. -/
theorem run_first (c : Dev nD) (i : grid0.Coords) (arg2 : Memref sig .tc .vmem S512x1024 .f32) (harg2 : arg2.IsWhole) (arg3 : Memref sig .tc .vmem S8x1024 .f32) (harg3 : arg3.IsWhole) (arg4 : Memref sig .tc .vmem S1x2048x1024 .f32) (harg4 : arg4.IsWhole) (arg5 : Memref sig .tc .vmem S1x1024x2048 .f32) (harg5 : arg5.IsWhole) (arg6 : Memref sig .tc .vmem S512x1024 .f32) (harg6 : arg6.IsWhole) (arg7 : Memref sig .tc .vmem S512x8 .f32) (harg7 : arg7.IsWhole)
    (hc0 : ¬k0_cond1 i = 1#1) (hc1 : k0_cond2 i = 1#1) (hc2 : firstExpert i) (hc3 : k0_cond4 i = 1#1) (hc4 : ¬k0_cond5 i = 1#1)
    (x0 : Vec F S512x1024 .f32) (x1 : Vec F S8x1024 .f32) (x2 : Vec F S1x2048x1024 .f32) (x3 : Vec F S1x1024x2048 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay4 (BitVec.ofNat 32 (i 1).val) (k0_pay3 x0 x1) x0 x2 x3) ∗ owns (c : Thread nD τ) arg7 fullShare (k0_pay3 x0 x1)) -∗ K ⟨⟩))
      ⊢ wp frame (wpE (defs₀ (F := F)) Variants.none c none) E (cc0__moe_body i arg2 harg2 arg3 harg3 arg4 harg4 arg5 harg5 arg6 harg6 arg7 harg7) K := by
  simp only [cc0__moe_body_eq_skeleton]; unfold cc0__moe_body_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    sl_unfold_words
    refine (read_whole_store (S := S512x1024) _ _ zero2 _ _).trans ?_
    rw [View.readCov_unit_zero (S := S512x8) _ zero2]
    simp only [View.readAt_eq_ld, harg2.read_unread, harg3.read_unread, harg4.read_unread, harg5.read_unread, harg6.read_unread, harg7.read_unread, View.ld_unit_zero (S := S512x1024) zero2, View.ld_unit_zero (S := S8x1024) zero2, View.ld_unit_zero (S := S512x8) zero2, View.ld_unit_zero (S := S1x2048x1024) zero3, View.ld_unit_zero (S := S1x1024x2048) zero3]
  iexists _; isplitr; swap; · iexact HS0
  ipureintro
  sl_unfold_words
  refine (read_whole_store (S := S512x8) _ _ zero2 _ _).trans ?_
  simp only [View.readAt_eq_ld, harg2.read_unread, harg3.read_unread, harg4.read_unread, harg5.read_unread, harg6.read_unread, harg7.read_unread, View.ld_unit_zero (S := S512x1024) zero2, View.ld_unit_zero (S := S8x1024) zero2, View.ld_unit_zero (S := S512x8) zero2, View.ld_unit_zero (S := S1x2048x1024) zero3, View.ld_unit_zero (S := S1x1024x2048) zero3]

set_option maxHeartbeats 1000000 in
/-- A later point of the second phase adds its expert's contribution to what the output block holds. -/
theorem run_accumulate (c : Dev nD) (i : grid0.Coords) (arg2 : Memref sig .tc .vmem S512x1024 .f32) (harg2 : arg2.IsWhole) (arg3 : Memref sig .tc .vmem S8x1024 .f32) (harg3 : arg3.IsWhole) (arg4 : Memref sig .tc .vmem S1x2048x1024 .f32) (harg4 : arg4.IsWhole) (arg5 : Memref sig .tc .vmem S1x1024x2048 .f32) (harg5 : arg5.IsWhole) (arg6 : Memref sig .tc .vmem S512x1024 .f32) (harg6 : arg6.IsWhole) (arg7 : Memref sig .tc .vmem S512x8 .f32) (harg7 : arg7.IsWhole)
    (hc0 : ¬k0_cond1 i = 1#1) (hc1 : k0_cond2 i = 1#1) (hc2 : ¬firstExpert i) (hc3 : ¬k0_cond4 i = 1#1) (hc4 : k0_cond5 i = 1#1)
    (x0 : Vec F S512x1024 .f32) (x1 : Vec F S8x1024 .f32) (x2 : Vec F S1x2048x1024 .f32) (x3 : Vec F S1x1024x2048 .f32)
    (x4 : Vec F S512x1024 .f32) (w : Vec F S512x8 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (x4) ∗ owns (c : Thread nD τ) arg7 fullShare (w)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay2 (k0_pay4 (BitVec.ofNat 32 (i 1).val) w x0 x2 x3) x4) ∗ owns (c : Thread nD τ) arg7 fullShare (w)) -∗ K ⟨⟩))
      ⊢ wp frame (wpE (defs₀ (F := F)) Variants.none c none) E (cc0__moe_body i arg2 harg2 arg3 harg3 arg4 harg4 arg5 harg5 arg6 harg6 arg7 harg7) K := by
  simp only [cc0__moe_body_eq_skeleton]; unfold cc0__moe_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hfs0
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    sl_unfold_words
    refine (read_whole_store (S := S512x1024) _ _ zero2 _ _).trans ?_
    simp only [View.readAt_eq_ld, harg2.read_unread, harg3.read_unread, harg4.read_unread, harg5.read_unread, harg6.read_unread, harg7.read_unread, View.ld_unit_zero (S := S512x1024) zero2, View.ld_unit_zero (S := S8x1024) zero2, View.ld_unit_zero (S := S512x8) zero2, View.ld_unit_zero (S := S1x2048x1024) zero3, View.ld_unit_zero (S := S1x1024x2048) zero3]
  iexists _; isplitr; swap; · iexact HS0
  ipureintro; exact harg7.read_unread _

end Cert.KernelIdeal.Hand

end
-- ==== Proof.KernelRegion.lean ====
/- The MoE kernel's region: what each grid point leaves in the output block and in the scratch, the body
   obligation at every point, and the run of the whole program with the region's arrays and the later host
   lines named. -/
module

public import proofs.«01_k».proof.Proof.KernelRuns
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region computes -/

/-- The gate weights of the first 512 tokens, as point 8 leaves them in the scratch. -/
def weights (c : Dev nD) : Vec F S512x8 .f32 := k0_pay3 (iblk m c 0 t0_8) (iblk m c 1 t0_8)

/-- The contribution of point `t`'s expert to the output block. -/
def contrib (c : Dev nD) (t : Fin cfg0.N) : Vec F S512x1024 .f32 :=
  k0_pay4 (BitVec.ofNat 32 (grid0.coords t 1).val) (weights m c) (iblk m c 0 t) (iblk m c 2 t) (iblk m c 3 t)

/-- The grid point of the second phase that runs expert `e`. -/
def pointOf (e : ℕ) (he : e < 8) : Fin cfg0.N := ⟨8 + e, by rw [show cfg0.N = 16 from N_0]; omega⟩

/-- The output block after the second phase has run the experts up to `e`: their contributions added in order. -/
def accum (c : Dev nD) : (e : ℕ) → e < 8 → Vec F S512x1024 .f32
  | 0, h => contrib m c (pointOf 0 h)
  | e + 1, h => k0_pay2 (contrib m c (pointOf (e + 1) h)) (accum c e (Nat.lt_of_succ_lt h))

/-- The running sum depends on the expert's number alone. -/
theorem accum_congr (c : Dev nD) {a b : ℕ} (h : a = b) (ha : a < 8) (hb : b < 8) : accum m c a ha = accum m c b hb := by
  subst h; rfl

/-- What the output's staging buffer holds after point `t`: zeros through the first phase, then the running sum. -/
def outAfter (c : Dev nD) (t : Fin cfg0.N) : Vec F S512x1024 .f32 :=
  if h : t.val < 8 then k0_pay1 (F := F)
  else accum m c (t.val - 8) (by have := Nat.lt_of_lt_of_eq t.isLt N_0; omega)

/-- The scratch between points: anything until point 8 has run, the gate weights after it. -/
def scratchInv (c : Dev nD) (n : ℕ) : sProp 𝕄 :=
  if n ≤ 8 then iprop(∃ d, owns (c : Thread nD τ) (Memref.whole cc0_scratch0) fullShare d)
  else owns (c : Thread nD τ) (Memref.whole cc0_scratch0) fullShare (weights m c)

/-- The region's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAfter m c t
  Φ t := iprop(scratchInv m c t.val ∗ (∃ r, prngReg c r))
  q _ := fullShare
  owed _ := 0

/-- The region finds the arrays as the host lines before it left them. -/
theorem A_eq (c : Dev nD) (w : Fin cfg0.W) : (dats m 0 c).A w = V m c (Pipeline.arrRef spec0 w) := by
  dsimp only [dats]

/-- Input 0's buffer keeps its block. -/
theorem after_0 (c : Dev nD) (t : Fin cfg0.N) : (dats m 0 c).after 0 t = iblk m c 0 t := by dsimp only [dats]
/-- Input 1's buffer keeps its block. -/
theorem after_1 (c : Dev nD) (t : Fin cfg0.N) : (dats m 0 c).after 1 t = iblk m c 1 t := by dsimp only [dats]
/-- Input 2's buffer keeps its block. -/
theorem after_2 (c : Dev nD) (t : Fin cfg0.N) : (dats m 0 c).after 2 t = iblk m c 2 t := by dsimp only [dats]
/-- Input 3's buffer keeps its block. -/
theorem after_3 (c : Dev nD) (t : Fin cfg0.N) : (dats m 0 c).after 3 t = iblk m c 3 t := by dsimp only [dats]
/-- The output's buffer holds `outAfter`. -/
theorem after_4 (c : Dev nD) (t : Fin cfg0.N) : (dats m 0 c).after 4 t = outAfter m c t := by dsimp only [dats]

/-- Input 0's buffer holds its block at every point. -/
theorem before_0 (c : Dev nD) (t : Fin cfg0.N) (d) : (dats m 0 c).before 0 t d = iblk m c 0 t :=
  before0_0_of m (dats m 0 c) (A_eq m c 0) (after_0 m c) t d
/-- Input 1's buffer holds its block at every point. -/
theorem before_1 (c : Dev nD) (t : Fin cfg0.N) (d) : (dats m 0 c).before 1 t d = iblk m c 1 t :=
  before0_1_of m (dats m 0 c) (A_eq m c 1) (after_1 m c) t d
/-- Input 2's buffer holds its block at every point. -/
theorem before_2 (c : Dev nD) (t : Fin cfg0.N) (d) : (dats m 0 c).before 2 t d = iblk m c 2 t :=
  before0_2_of m (dats m 0 c) (A_eq m c 2) (after_2 m c) t d
/-- Input 3's buffer holds its block at every point. -/
theorem before_3 (c : Dev nD) (t : Fin cfg0.N) (d) : (dats m 0 c).before 3 t d = iblk m c 3 t :=
  before0_3_of m (dats m 0 c) (A_eq m c 3) (after_3 m c) t d

/-- The points that write the output block back: the first phase's but point 6, and the last. -/
theorem flush_iff : ∀ t : Fin cfg0.N, (cfg0.win 4).flush t = true ↔ (t.val < 8 ∧ t.val ≠ 6) ∨ t.val = 15 :=
  (by decide +kernel : ∀ t : Fin grid0.N, win0_4.flush t = true ↔ (t.val < 8 ∧ t.val ≠ 6) ∨ t.val = 15)

/-- No window is idle at any point: one of the body's branches stores the output at each. -/
theorem live : ∀ (w : Fin cfg0.W) (i : cfg0.grid.Coords), cfg0.idle w i = false :=
  (by decide +kernel : ∀ (w : Fin 5) (i : grid0.Coords), idle0 w i = false)

/-- Past point 8 the output's buffer still holds what the point before left. -/
theorem before_4 (c : Dev nD) (t : Fin cfg0.N) (ht : 9 ≤ t.val) (d) :
    (dats m 0 c).before 4 t d = outAfter m c ⟨t.val - 1, Nat.lt_of_le_of_lt (Nat.sub_le _ _) t.isLt⟩ := by
  have hN : t.val < 16 := Nat.lt_of_lt_of_eq t.isLt N_0
  rw [(dats m 0 c).before_out_kept 4 rfl t (by omega)
    (by
      rw [Bool.eq_false_iff]; intro h
      have := (flush_iff _).mp h
      dsimp only at this; omega) (live 4) (fun _ _ => rfl) d, after_4]

/-- The class invariant: the scratch at some contents and the generator register. -/
theorem PhiA_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- What the body must leave in each window's buffer, spelled out. -/
theorem leaves_eq (c : Dev nD) (t : Fin cfg0.N) (w : Fin cfg0.W) :
    (dats m 0 c).leavesExact w t
      = owns (c : Thread nD τ) ((cfg0.win w).stage (cfg0.slots t w)) fullShare ((dats m 0 c).after w t) := by
  unfold Dat.leavesExact
  rw [live w]

set_option maxHeartbeats 1200000 in
/-- The body at any point: the point's case decides which run applies, and the scratch invariant moves from
    "anything" to "the gate weights" across point 8. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, leaves_eq, after_0, after_1, after_2, after_3, after_4]
  rw [show (dats m 0 c).owesAt () t.succ = (dats m 0 c).owesAt () t.castSucc from rfl,
    show (dats m 0 c).Φ t.succ = iprop(scratchInv m c (t.val + 1) ∗ (∃ r, prngReg c r)) from rfl,
    show (dats m 0 c).Φ t.castSucc = iprop(scratchInv m c t.val ∗ (∃ r, prngReg c r)) from rfl]
  have hN : t.val < 16 := Nat.lt_of_lt_of_eq t.isLt N_0
  rcases lt_trichotomy t.val 8 with h | h | h
  · rw [show scratchInv m c (t.val + 1) = scratchInv m c t.val from by unfold scratchInv; rw [if_pos (by omega), if_pos (by omega)],
      show scratchInv m c t.val = iprop(∃ d, owns (c : Thread nD τ) (Memref.whole cc0_scratch0) fullShare d) from if_pos (by omega),
      show outAfter m c t = k0_pay1 (F := F) from dif_pos h]
    iintro ⟨⟨HS0, Hg⟩, Ho, ⟨%d0, H0⟩, ⟨%d1, H1⟩, ⟨%d2, H2⟩, ⟨%d3, H3⟩, ⟨%d4, H4⟩⟩
    iapply (run_clear c (grid0.coords t) _ _ _ _ _ _ _ _ _ _ _ _ ((phase0_iff t).mpr h) (fun h' => absurd ((phase1_iff t).mp h') (by omega))
      (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, H4, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    iexact H4
  · have ht : t = t0_8 := Fin.ext h
    rw [show scratchInv m c (t.val + 1) = owns (c : Thread nD τ) (Memref.whole cc0_scratch0) fullShare (weights m c) from if_neg (by omega),
      show scratchInv m c t.val = iprop(∃ d, owns (c : Thread nD τ) (Memref.whole cc0_scratch0) fullShare d) from if_pos (by omega),
      show outAfter m c t = k0_pay4 (BitVec.ofNat 32 (grid0.coords t 1).val) (k0_pay3 (iblk m c 0 t) (iblk m c 1 t)) (iblk m c 0 t) (iblk m c 2 t) (iblk m c 3 t) from by
        subst ht; rfl,
      show weights m c = k0_pay3 (iblk m c 0 t) (iblk m c 1 t) from by subst ht; rfl]
    iintro ⟨⟨HS0, Hg⟩, Ho, ⟨%d0, H0⟩, ⟨%d1, H1⟩, ⟨%d2, H2⟩, ⟨%d3, H3⟩, ⟨%d4, H4⟩⟩
    iapply (run_first c (grid0.coords t) _ _ _ _ _ _ _ _ _ _ _ _ (fun h' => absurd ((phase0_iff t).mp h') (by omega)) ((phase1_iff t).mpr (by omega))
      ((firstExpert_iff t).mpr (by omega)) ((storeFirst_iff t).mpr (by omega)) (fun h' => absurd ((accumulate_iff t).mp h') (by omega))
      (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, H4, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    iexact H4
  · simp only [before_4 m c t h]
    obtain ⟨e, he, ht⟩ : ∃ e, ∃ he : e + 1 < 8, t = pointOf (e + 1) he :=
      ⟨t.val - 9, by omega, Fin.ext (by show t.val = 8 + (t.val - 9 + 1); omega)⟩
    rw [show scratchInv m c (t.val + 1) = owns (c : Thread nD τ) (Memref.whole cc0_scratch0) fullShare (weights m c) from if_neg (by omega),
      show scratchInv m c t.val = owns (c : Thread nD τ) (Memref.whole cc0_scratch0) fullShare (weights m c) from if_neg (by omega),
      show outAfter m c t = k0_pay2 (k0_pay4 (BitVec.ofNat 32 (grid0.coords t 1).val) (weights m c) (iblk m c 0 t) (iblk m c 2 t) (iblk m c 3 t))
          (outAfter m c ⟨t.val - 1, Nat.lt_of_le_of_lt (Nat.sub_le _ _) t.isLt⟩) from by
        subst ht
        unfold outAfter
        rw [dif_neg (show ¬(pointOf (e + 1) he).val < 8 from by show ¬(8 + (e + 1) < 8); omega),
          dif_neg (show ¬((pointOf (e + 1) he).val - 1) < 8 from by show ¬(8 + (e + 1) - 1 < 8); omega)]
        have e1 : (pointOf (e + 1) he).val - 8 = e + 1 := by show 8 + (e + 1) - 8 = e + 1; omega
        have e2 : (pointOf (e + 1) he).val - 1 - 8 = e := by show 8 + (e + 1) - 1 - 8 = e; omega
        exact (accum_congr m c e1 _ he).trans (congrArg (k0_pay2 _) (accum_congr m c e2.symm _ _))]
    iintro ⟨⟨HS0, Hg⟩, Ho, ⟨%d0, H0⟩, ⟨%d1, H1⟩, ⟨%d2, H2⟩, ⟨%d3, H3⟩, ⟨%d4, H4⟩⟩
    iapply (run_accumulate c (grid0.coords t) _ _ _ _ _ _ _ _ _ _ _ _ (fun h' => absurd ((phase0_iff t).mp h') (by omega)) ((phase1_iff t).mpr (by omega))
      (fun h' => absurd ((firstExpert_iff t).mp h') (by omega)) (fun h' => absurd ((storeFirst_iff t).mp h') (by omega)) ((accumulate_iff t).mpr (by omega))
      (iblk m c 0 t) (iblk m c 1 t) (iblk m c 2 t) (iblk m c 3 t) _ (weights m c) Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    iexact H4

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- The launch: the region's arrays end at the proof data's final contents, every other buffer at what the host
    lines after the region leave, and every semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun c => by
      rw [PhiA_eq]
      rw [show (dats m 0 c).Φ 0 = iprop((∃ d, owns (c : Thread nD τ) (Memref.whole cc0_scratch0) fullShare d) ∗ (∃ r, prngReg c r)) from rfl])
    (hout := fun c => by
      rw [PhiA_eq]
      rw [show (dats m 0 c).Φ (Fin.last cfg0.N) = iprop(owns (c : Thread nD τ) (Memref.whole cc0_scratch0) fullShare (weights m c) ∗ (∃ r, prngReg c r)) from by
        show iprop(scratchInv m c cfg0.N ∗ _) = _
        unfold scratchInv; rw [if_neg (by rw [show cfg0.N = 16 from N_0]; omega)]]
      iintro ⟨HS0, Hg⟩
      isplitl [HS0]
      · iexists _; iexact HS0
      iexact Hg)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.KernelWords.lean ====
/- The bit-exact kernel is the same program as the ideal one, read at other values: its run takes over the frame proved
   for all values. -/
module

public import proofs.«01_k».proof.Defs
public import proofs.«01_k».proof.Proof.Gen.Kernel
public import proofs.«01_k».proof.Proof.KernelRegion

@[expose] public section

set_option maxRecDepth 16384

noncomputable section

namespace Cert.Kernel.Hand

open Idealize.ShloMosaic Idealize.SL.Sem

variable {F : FTy → Type} [FloatOps F]

/-- The two programs run the same host operations and the same region. -/
theorem main_same : Cert.Kernel.main (F := F) = Cert.KernelIdeal.main (F := F) := rfl

/-- Their kernels' bodies are the same, label by label. -/
theorem bodies_same : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

/-- With the pipelines around the bodies, their tables of bodies are the same. -/
theorem defs_same : Cert.Kernel.defs (F := F) = Cert.KernelIdeal.defs (F := F) :=
  congrArg (Pipeline.defs (Cert.KernelIdeal.pcfgs (F := F))) bodies_same

/-- The bit-exact kernel runs, leaves its arguments as they were and every counter at zero. -/
theorem frame : Cert.quiescent_Kernel (hKernel := Cert.Kernel.Gen.facts) := fun m ρ _ => by
  rw [defs_same, main_same]
  exact Cert.KernelIdeal.Hand.frame (F := Bits) m ρ

end Cert.Kernel.Hand

end
-- ==== Proof.KernelValue.lean ====
/- The results of the MoE kernel's program after the run: the output array's eight row blocks and the two
   arrays the host lines behind the region write. -/
module

public import proofs.«01_k».proof.Proof.KernelRegion
public import Idealize.ShloMosaic.Lib.Pipeline.ValueKit
public import Idealize.ShloMosaic.Lib.Pointwise

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The output array: the accumulated experts in the first 512 rows, zeros below them. -/
def outArray (c : Dev nD) : Vec F S4096x1024 .f32 := fun i =>
  if h : (i 0).val < 512 then accum m c 7 (by decide) (ix2 (⟨(i 0).val, h⟩ : Fin 512) (i 1))
  else (Scalar.ofBits .f32 0x00000000#32 : F .f32)

/-- The row block the output window stands at: block 0 in the second phase, a block from 1 on in the first. -/
theorem out_index : ∀ t : Fin cfg0.N, (win0_4.index t 0 = if t.val < 8 then min (t.val + 1) 7 else 0) ∧ win0_4.index t 1 = 0 :=
  (by decide +kernel : ∀ t : Fin grid0.N, _)

/-- The output array after the run. -/
theorem final (c : Dev nD) : (dats m 0 c).arrAt 4 cfg0.N = outArray m c := by
  refine (dats m 0 c).arrAt_eq_of_covers 4 _ (by decide +kernel) fun t hf y => ?_
  have h0 := (out_index t).1
  have h1 := (out_index t).2
  have hfl := (flush_iff t).mp hf
  blk_simp
  rw [after_4]
  unfold outAfter outArray
  rcases hfl with ⟨hlt, -⟩ | h15
  · rw [dif_pos hlt, dif_neg]
    · rfl
    · blk_simp
      rw [h0, if_pos hlt]
      have : 1 ≤ min (t.val + 1) 7 := by omega
      omega
  · have hge : ¬ t.val < 8 := by omega
    rw [if_neg hge] at h0
    rw [dif_neg hge, dif_pos]
    · rw [accum_congr m c (show t.val - 8 = 7 by omega) _ (by decide)]
      refine congrArg _ (funext fun a => Fin.ext ?_)
      fin_cases a
      · show (y 0).val = (((win0_4.blk t).view.emb y) 0).val
        blk_simp [h0]
      · show (y 1).val = (((win0_4.blk t).view.emb y) 1).val
        blk_simp [h1]
    · blk_simp
      rw [h0]
      have h : (y 0).val < 512 := (y 0).isLt
      omega

/-- The run, read at the two results: the output array's rows reshaped to the tokens' shape, and the constant zero. -/
theorem run_value : θ_run defs (onTc (τ := τ) (main (F := F))) ⟨m, fun _ => 0, ρ⟩ fun r => ∀ c : Dev nD,
      r.2.mem ((c : Thread nD τ).loc main_v2) = shapeCast S2x2048x1024 (outArray m c) shapeCasts_S4096x1024_S2x2048x1024
      ∧ r.2.mem ((c : Thread nD τ).loc main_cst) = constant S_ .f32 0x00000000#32 :=
  (θ_run defs _ _).mono (fun r h c => by
    refine ⟨((h c).2 main_v2 (Pipeline.mem_restRefs_of main_v2 (by decide) (by decide))).trans ?_,
      ((h c).2 main_cst (Pipeline.mem_restRefs_of main_cst (by decide) (by decide))).trans ?_⟩
    · unfold Pipeline.afterTail₀
      show StableHlo.after hostOps1 _ _ = _
      unfold hostOps1
      after_results_simp
      rw [← final m c]
      exact congrArg (fun X => shapeCast S2x2048x1024 X shapeCasts_S4096x1024_S2x2048x1024)
        (Pipeline.withArrays_arr spec0 winFacts0.arr_inj c (V0 m c) (fun w => (dats m 0 c).arrAt w cfg0.N) 4)
    · unfold Pipeline.afterTail₀
      show StableHlo.after hostOps1 _ _ = _
      unfold hostOps1
      after_results_simp) (run_main m ρ)

end Cert.KernelIdeal.Hand

end
-- ==== Proof.Model.lean ====
/- The routed two-layer network as plain formulas over the extended reals, and the facts about its routing
   weights: each is a non-negative real number, whatever the arguments. -/
module

public import Idealize.ShloMosaic.PureOps.Ideal
public import Idealize.ShloMosaic.Lib.IdealHost
public import Mathlib.Algebra.BigOperators.Fin
public import Mathlib.Data.EReal.Operations

@[expose] public section

set_option maxRecDepth 16384

noncomputable section

namespace Cert.Model

open Idealize.ShloMosaic

/-- The gate's logit of an expert. -/
def logit (x : Fin 1024 → EReal) (g : Fin 8 → Fin 1024 → EReal) (e : Fin 8) : EReal := ∑ k, x k * g e k

/-- The largest logit. -/
def top (l : Fin 8 → EReal) : EReal := Finset.fold max (Ideal.ofBits FTy.f32 4286578688#32) l Finset.univ

/-- A logit's exponential, after the largest one is taken off. -/
def share (l : Fin 8 → EReal) (e : Fin 8) : EReal := Ideal.exp (l e - top l)

/-- The softmax score of an expert. -/
def score (l : Fin 8 → EReal) (e : Fin 8) : EReal := Ideal.div (share l e) (∑ e', share l e')

/-- The small number added under the second normalisation. -/
def eps : EReal := Ideal.ofBits FTy.f32 814313567#32

/-- The routing weight of an expert: its score over the sum of all scores. -/
def weight (l : Fin 8 → EReal) (e : Fin 8) : EReal := Ideal.div (score l e) (∑ e', score l e' + eps)

/-- The GELU in its tanh form. -/
def gelu (h : EReal) : EReal :=
  Ideal.ofBits FTy.f32 1056964608#32 * h
    * (1 + Ideal.tanh (Ideal.ofBits FTy.f32 1061962282#32 * (h + Ideal.ofBits FTy.f32 1027024659#32 * h * h * h)))

/-- One expert's answer for a token of weight `w`. -/
def expert (w : EReal) (x : Fin 1024 → EReal) (W1 : Fin 2048 → Fin 1024 → EReal) (W2 : Fin 1024 → Fin 2048 → EReal) (d : Fin 1024) : EReal :=
  ∑ f, gelu (w * ∑ k, x k * W1 f k) * W2 d f

/-- A token's result: the experts' answers added up. -/
def layer (x : Fin 1024 → EReal) (g : Fin 8 → Fin 1024 → EReal) (W1 : Fin 8 → Fin 2048 → Fin 1024 → EReal)
    (W2 : Fin 8 → Fin 1024 → Fin 2048 → EReal) (d : Fin 1024) : EReal :=
  ∑ e, expert (weight (logit x g) e) x (W1 e) (W2 e) d

/-- The small number is a positive real. -/
theorem eps_pos : ∃ r : ℝ, 0 < r ∧ eps = (r : EReal) := by
  refine ⟨9007199 * (2 : ℝ) ^ (-53 : ℤ), by positivity, ?_⟩
  unfold eps
  simp [Ideal.ofBits, Ideal.ieee, -EReal.coe_mul]

/-- The extended real of a finite sum of reals. -/
theorem coe_sum (a : Fin 8 → ℝ) : ((∑ e, a e : ℝ) : EReal) = ∑ e, (a e : EReal) :=
  map_sum (⟨⟨Real.toEReal, EReal.coe_zero⟩, EReal.coe_add⟩ : ℝ →+ EReal) a Finset.univ

/-- Each exponential is a non-negative real: its exponent is not positive. -/
theorem share_real (l : Fin 8 → EReal) (e : Fin 8) : ∃ r : ℝ, 0 ≤ r ∧ share l e = (r : EReal) := by
  have hle : l e - top l ≤ 0 := EReal.sub_nonpos.2 (Finset.le_fold_max _ |>.2 (Or.inr ⟨e, Finset.mem_univ _, le_rfl⟩))
  unfold share
  generalize l e - top l = z at hle ⊢
  induction z with
  | bot => exact ⟨0, le_rfl, rfl⟩
  | top => exact absurd hle (by simp)
  | coe r => exact ⟨Real.exp r, (Real.exp_pos r).le, rfl⟩

/-- A quotient of reals with a denominator that is not zero. -/
theorem div_real (a b : ℝ) (hb : b ≠ 0) : Ideal.div (a : EReal) (b : EReal) = ((a / b : ℝ) : EReal) := by
  unfold Ideal.div
  rw [if_neg (by simpa using hb), ← EReal.coe_inv, ← EReal.coe_mul, div_eq_mul_inv]

/-- Every routing weight is a non-negative real. -/
theorem weight_real (l : Fin 8 → EReal) (e : Fin 8) : ∃ r : ℝ, 0 ≤ r ∧ weight l e = (r : EReal) := by
  choose a ha hshare using share_real l
  obtain ⟨p, hp, heps⟩ := eps_pos
  have hsum : ∑ e', share l e' = ((∑ e', a e' : ℝ) : EReal) := by
    simp only [hshare, coe_sum]
  have hS : 0 ≤ ∑ e', a e' := Finset.sum_nonneg fun i _ => ha i
  by_cases h0 : ∑ e', a e' = 0
  · have hbot : ∀ e', score l e' = ⊥ := fun e' => by
      have hz : a e' = 0 := (Finset.sum_eq_zero_iff_of_nonneg fun i _ => ha i).1 h0 e' (Finset.mem_univ _)
      unfold score
      rw [hsum, h0, hshare, hz]
      simp [Ideal.div]
    refine ⟨0, le_rfl, ?_⟩
    unfold weight
    rw [Fin.sum_univ_succ, hbot, hbot, EReal.bot_add, EReal.bot_add]
    simp [Ideal.div]
  · have hscore : ∀ e', score l e' = ((a e' / ∑ i, a i : ℝ) : EReal) := fun e' => by
      unfold score
      rw [hsum, hshare, div_real _ _ h0]
    have hq : ∀ e', 0 ≤ a e' / ∑ i, a i := fun e' => div_nonneg (ha e') hS
    have hT : 0 < ∑ e', (a e' / ∑ i, a i) + p := add_pos_of_nonneg_of_pos (Finset.sum_nonneg fun i _ => hq i) hp
    refine ⟨(a e / ∑ i, a i) / (∑ e', (a e' / ∑ i, a i) + p), div_nonneg (hq e) hT.le, ?_⟩
    unfold weight
    simp only [hscore, heps]
    rw [← coe_sum, ← EReal.coe_add, div_real _ _ hT.ne']

/-- Scaling a token before its product with a matrix row is scaling the product. -/
theorem scaled_row (l : Fin 8 → EReal) (e : Fin 8) (x u : Fin 1024 → EReal) :
    ∑ k, x k * weight l e * u k = weight l e * ∑ k, x k * u k := by
  obtain ⟨r, hr, hw⟩ := weight_real l e
  rw [hw]
  have h0 : (0 : EReal) ≤ (r : EReal) := EReal.coe_nonneg.2 hr
  have hdist : ∀ s : Finset (Fin 1024), (r : EReal) * ∑ k ∈ s, x k * u k = ∑ k ∈ s, x k * r * u k := fun s => by
    induction s using Finset.cons_induction with
    | empty => simp
    | cons k s hk ih =>
      rw [Finset.sum_cons, Finset.sum_cons, EReal.left_distrib_of_nonneg_of_ne_top h0 (EReal.coe_ne_top r), ih]
      congr 1
      ac_rfl
  exact (hdist _).symm

/-- The tanh form as the reference writes it. -/
theorem gelu_eq (h : EReal) :
    h * (Ideal.ofBits FTy.f32 1056964608#32
      * (1 + Ideal.tanh (Ideal.ofBits FTy.f32 1061962282#32 * (h + Ideal.ofBits FTy.f32 1027024659#32 * (h * h * h))))) = gelu h := by
  unfold gelu
  rw [show Ideal.ofBits FTy.f32 1027024659#32 * (h * h * h) = Ideal.ofBits FTy.f32 1027024659#32 * h * h * h by ac_rfl]
  ac_rfl

end Cert.Model

end
-- ==== Proof.KernelEntry.lean ====
/- The entries of the MoE kernel's output array as the plain formulas of the routed network. -/
module

public import proofs.«01_k».proof.Proof.KernelValue
public import proofs.«01_k».proof.Proof.Model

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.Sem
open Idealize.ShloMosaic.Pipeline (Dat Cfg Window)

/-- The first payload: the routing weights of a block of tokens. -/
theorem pay3_at (x : Vec Ideal S512x1024 .f32) (g : Vec Ideal S8x1024 .f32) (r : Fin 512) (e : Fin 8) :
    k0_pay3 x g (ix2 r e) = Model.weight (Model.logit (fun k => x (ix2 r k)) (fun e k => g (ix2 e k))) e := by
  pointwise [k0_pay3]
  rfl

/-- Picking one expert's column by a comparison with the experts' numbers and adding up. -/
theorem pick (w : Fin 8 → EReal) (e : Fin 8) :
    (∑ i : Fin 8, Scalar.select (IntOp.cmpi .eq (BitVec.ofNat 32 i.val) (BitVec.ofNat 32 e.val)) (w i) 0) = w e := by
  rw [Finset.sum_eq_single e]
  · rw [show IntOp.cmpi .eq (BitVec.ofNat 32 e.val) (BitVec.ofNat 32 e.val) = 1#1 by clear * -; decide +revert]
    rfl
  · intro i _ hi
    rw [show IntOp.cmpi .eq (BitVec.ofNat 32 i.val) (BitVec.ofNat 32 e.val) = 0#1 by clear * - hi; decide +revert]
    rfl
  · exact fun h => absurd (Finset.mem_univ _) h

/-- The second payload: one expert's answer for a block of tokens. -/
theorem pay4_at (e : Fin 8) (w : Vec Ideal S512x8 .f32) (x : Vec Ideal S512x1024 .f32) (g : Vec Ideal S1x2048x1024 .f32)
    (g2 : Vec Ideal S1x1024x2048 .f32) (r : Fin 512) (d : Fin 1024) :
    k0_pay4 (BitVec.ofNat 32 e.val) w x g g2 (ix2 r d)
      = Model.expert (w (ix2 r e)) (fun k => x (ix2 r k)) (fun f k => g (ix3 (0 : Fin 1) f k)) (fun d f => g2 (ix3 (0 : Fin 1) d f)) d := by
  rw [← pick (fun i => w (ix2 r i)) e]
  pointwise [k0_pay4]
  rfl

variable (m : (ℓ : Loc nD τ sig) → Buf (Elt Ideal) ℓ)

/-- The tokens, by their number. -/
def tokens (c : Dev nD) (t : Fin 4096) (k : Fin 1024) : EReal :=
  m ((c : Thread nD τ).loc main_arg0) (ix3 (⟨t.val / 2048, by omega⟩ : Fin 2) (⟨t.val % 2048, by omega⟩ : Fin 2048) k)

/-- The gate's rows. -/
def gate (c : Dev nD) (e : Fin 8) (k : Fin 1024) : EReal := m ((c : Thread nD τ).loc main_arg1) (ix2 e k)

/-- The first layers' rows. -/
def up (c : Dev nD) (e : Fin 8) (f : Fin 2048) (k : Fin 1024) : EReal := m ((c : Thread nD τ).loc main_arg3) (ix3 e f k)

/-- The second layers' rows. -/
def down (c : Dev nD) (e : Fin 8) (d : Fin 1024) (f : Fin 2048) : EReal := m ((c : Thread nD τ).loc main_arg5) (ix3 e d f)

/-- Where the input windows stand. -/
theorem in_index : ∀ t : Fin cfg0.N, 8 ≤ t.val →
    (win0_0.index t 0 = 0 ∧ win0_0.index t 1 = 0) ∧ (win0_1.index t 0 = 0 ∧ win0_1.index t 1 = 0)
      ∧ (win0_2.index t 0 = t.val - 8 ∧ win0_2.index t 1 = 0 ∧ win0_2.index t 2 = 0)
      ∧ (win0_3.index t 0 = t.val - 8 ∧ win0_3.index t 1 = 0 ∧ win0_3.index t 2 = 0)
      ∧ (grid0.coords t 1).val = t.val - 8 :=
  (by decide +kernel : ∀ t : Fin grid0.N, _)

/-- The array behind the token window: the argument with its first two axes merged. -/
theorem tokens_array (c : Dev nD) :
    V m c main_v0 = shapeCast S4096x1024 (m ((c : Thread nD τ).loc main_arg0) : Vec Ideal S2x2048x1024 .f32) shapeCasts_S2x2048x1024_S4096x1024 := by
  show StableHlo.after hostOps0 _ _ = _
  unfold hostOps0
  after_results_simp
  rfl

/-- Merging the first two axes, read at an entry. -/
theorem merged_at (X : Vec Ideal S2x2048x1024 .f32) (t : Fin 4096) (k : Fin 1024) :
    shapeCast S4096x1024 X shapeCasts_S2x2048x1024_S4096x1024 (ix2 t k)
      = X (ix3 (⟨t.val / 2048, by omega⟩ : Fin 2) (⟨t.val % 2048, by omega⟩ : Fin 2048) k) := by
  pointwise

/-- Its entries. -/
theorem tokens_array_at (c : Dev nD) (t : Fin 4096) (k : Fin 1024) : (V m c main_v0 : Vec Ideal S4096x1024 .f32) (ix2 t k) = tokens m c t k :=
  (congrFun (tokens_array m c) _).trans (merged_at _ t k)

/-- The token window's block: the first 512 tokens. -/
theorem block_tokens (c : Dev nD) (t : Fin cfg0.N) (ht : 8 ≤ t.val) (r : Fin 512) (k : Fin 1024) :
    (iblk m c 0 t : Vec Ideal S512x1024 .f32) (ix2 r k) = tokens m c ⟨r.val, by omega⟩ k := by
  obtain ⟨⟨h0, h1⟩, -⟩ := in_index t ht
  refine Eq.trans ?_ (tokens_array_at m c ⟨r.val, by omega⟩ k)
  blk_ext [iblk, h0, h1]

/-- The gate window's block: the whole gate. -/
theorem block_gate (c : Dev nD) (t : Fin cfg0.N) (ht : 8 ≤ t.val) (e : Fin 8) (k : Fin 1024) :
    (iblk m c 1 t : Vec Ideal S8x1024 .f32) (ix2 e k) = gate m c e k := by
  obtain ⟨-, ⟨h0, h1⟩, -⟩ := in_index t ht
  unfold gate
  blk_ext [iblk, V, h0, h1]

/-- The first layer's block: the rows of the point's expert. -/
theorem block_up (c : Dev nD) (t : Fin cfg0.N) (ht : 8 ≤ t.val) (e : Fin 8) (he : t.val - 8 = e.val) (f : Fin 2048) (k : Fin 1024) :
    (iblk m c 2 t : Vec Ideal S1x2048x1024 .f32) (ix3 (0 : Fin 1) f k) = up m c e f k := by
  obtain ⟨-, -, ⟨h0, h1, h2⟩, -⟩ := in_index t ht
  rw [he] at h0
  unfold up
  blk_ext [iblk, V, h0, h1, h2]

/-- The second layer's block: the rows of the point's expert. -/
theorem block_down (c : Dev nD) (t : Fin cfg0.N) (ht : 8 ≤ t.val) (e : Fin 8) (he : t.val - 8 = e.val) (d : Fin 1024) (f : Fin 2048) :
    (iblk m c 3 t : Vec Ideal S1x1024x2048 .f32) (ix3 (0 : Fin 1) d f) = down m c e d f := by
  obtain ⟨-, -, -, ⟨h0, h1, h2⟩, -⟩ := in_index t ht
  rw [he] at h0
  unfold down
  blk_ext [iblk, V, h0, h1, h2]

/-- One expert's contribution to the output block. -/
theorem contrib_at (c : Dev nD) (e : Fin 8) (r : Fin 512) (d : Fin 1024) :
    contrib m c (pointOf e.val e.isLt) (ix2 r d)
      = Model.expert (Model.weight (Model.logit (tokens m c ⟨r.val, by omega⟩) (gate m c)) e) (tokens m c ⟨r.val, by omega⟩) (up m c e) (down m c e) d := by
  have h8 : 8 ≤ (pointOf e.val e.isLt).val := Nat.le_add_right _ _
  have he : (pointOf e.val e.isLt).val - 8 = e.val := Nat.add_sub_cancel_left _ _
  have hc : (grid0.coords (pointOf e.val e.isLt) 1).val = e.val := (in_index _ h8).2.2.2.2.trans he
  have ht8 : 8 ≤ (t0_8 : Fin cfg0.N).val := by decide +kernel
  unfold contrib weights
  rw [hc, pay4_at, pay3_at]
  simp only [block_tokens m c _ h8, block_tokens m c _ ht8, block_gate m c _ ht8, block_up m c _ h8 e he, block_down m c _ h8 e he]

/-- The output block after the experts up to `n`: their contributions added up. -/
theorem accum_at (c : Dev nD) (n : ℕ) (hn : n < 8) (r : Fin 512) (d : Fin 1024) :
    accum m c n hn (ix2 r d) = ∑ e : Fin (n + 1), contrib m c (pointOf e.val (by omega)) (ix2 r d) := by
  induction n with
  | zero =>
    rw [Fin.sum_univ_one]
    rfl
  | succ n ih =>
    rw [Fin.sum_univ_castSucc]
    refine Eq.trans ?_ (congrArg (· + _) (ih (by omega)))
    show k0_pay2 (contrib m c (pointOf (n + 1) hn)) (accum m c n (by omega)) (ix2 r d)
      = accum m c n (by omega) (ix2 r d) + contrib m c (pointOf (n + 1) hn) (ix2 r d)
    pointwise [k0_pay2]

/-- The output array's entries: the routed network for the first 512 tokens, zero for the others. -/
theorem outArray_at (c : Dev nD) (t : Fin 4096) (d : Fin 1024) :
    outArray m c (ix2 t d)
      = if t.val < 512 then Model.layer (tokens m c t) (gate m c) (up m c) (down m c) d else 0 := by
  unfold outArray
  by_cases h : t.val < 512
  · rw [if_pos h]
    refine (dif_pos h).trans ?_
    refine (accum_at m c 7 _ ⟨t.val, h⟩ d).trans ?_
    unfold Model.layer
    exact Finset.sum_congr rfl fun e _ => contrib_at m c e ⟨t.val, h⟩ d
  · rw [if_neg h]
    refine (dif_neg h).trans ?_
    exact Ideal.ofBits_zero_f32

end Cert.KernelIdeal.Hand

end
-- ==== Proof.RefOrder.lean ====
/- The order in which the reference's top-k lists a token's eight experts: a permutation, since it keeps all
   eight. -/
module

public import proofs.«01_k».proof.Proof.Gen.ReferenceIdeal.Run
public import Idealize.ShloMosaic.Lib.Pointwise
public import Idealize.ShloMosaic.Lib.SortFacts

@[expose] public section

set_option maxRecDepth 16384

noncomputable section

namespace Cert.ReferenceIdeal.Hand

open Cert.ReferenceIdeal Cert.ReferenceIdeal.Gen
open Idealize.ShloMosaic

/-- The expert that token `t` lists at place `j`, by the scores `s`. -/
def listed (s : FVec Ideal S4096x8 .f32) (t : Fin 4096) : Fin 8 → Fin 8 :=
  sortedFrom fun k k' => FloatOps.cmpfTotal .gt (s (ix2 t k)) (s (ix2 t k')) == 1#1

/-- Every expert is listed exactly once. -/
theorem listed_bijective (s : FVec Ideal S4096x8 .f32) (t : Fin 4096) : Function.Bijective (listed s t) :=
  ⟨sortedFrom_injective _, sortedFrom_surjective _⟩

/-- A row's index with its second coordinate replaced. -/
theorem along_row (t : Fin 4096) (j k : Fin 8) : Shape.Idx.along (s := S4096x8) (ix2 t j) 1 k = ix2 t k :=
  funext fun b => by fin_cases b <;> rfl

/-- The top-k's values: the scores in the listed order. -/
theorem topK_values (s : FVec Ideal S4096x8 .f32) (h : S4096x8.Slices (fun _ => 0) S4096x8) (t : Fin 4096) (j : Fin 8) :
    (Host.topK S4096x8 1 (FloatOps.cmpfTotal .gt) s h).1 (ix2 t j) = s (ix2 t (listed s t j)) := by
  unfold Host.topK Host.sort2
  dsimp only
  rw [dif_pos (by decide)]
  pointwise
  rw [along_row]
  refine congrArg (fun p => s (ix2 t p)) ?_
  unfold listed
  simp only [along_row]

/-- The top-k's indices: the listed experts' numbers. -/
theorem topK_indices (s : FVec Ideal S4096x8 .f32) (h : S4096x8.Slices (fun _ => 0) S4096x8) (t : Fin 4096) (j : Fin 8) :
    (Host.topK S4096x8 1 (FloatOps.cmpfTotal .gt) s h).2 (ix2 t j) = BitVec.ofNat 32 (listed s t j).val := by
  unfold Host.topK Host.sort2
  dsimp only
  rw [dif_pos (by decide)]
  pointwise
  rw [along_row]
  refine congrArg (fun p : Fin 8 => BitVec.ofNat 32 p.val) ?_
  unfold listed
  simp only [along_row]
  rfl

end Cert.ReferenceIdeal.Hand

end
-- ==== Proof.RefIndex.lean ====
/- Where the reference's gathers read and its scatters write, at the index words the routing makes. -/
module

public import proofs.«01_k».proof.Proof.Gen.ReferenceIdeal.Run
public import Idealize.ShloMosaic.Lib.Pointwise
public import Idealize.ShloMosaic.Lib.Routing.OpsPair

@[expose] public section

set_option maxRecDepth 16384

noncomputable section

namespace Cert.ReferenceIdeal.Hand

open Cert.ReferenceIdeal
open Idealize.ShloMosaic

variable {α : Type}

/-- A 32-bit word of a natural below 2³¹ reads back, signed, as the natural. -/
theorem toInt_word (n : ℕ) (h : n < 2 ^ 31) : (BitVec.ofNat 32 n).toInt = n :=
  StableHlo.Predicate.toInt_ofNat_small _ h

/-- A gather's clamped start on an axis the start index map names, at a word of a natural that needs no clamping. -/
theorem gather_start {s si t : Shape} (d : GatherDims s si t) (j : t.Idx) (idx : IVec si 32) (a : Fin s.rank) (ha : a ∈ d.startIndexMap)
    (i : si.Idx) (hi : d.siIdx j ⟨d.startIndexMap.idxOf a, List.idxOf_lt_length_iff.2 ha⟩ = i) (e : ℕ) (he : idx i = BitVec.ofNat 32 e)
    (hlt : e < 2 ^ 31) (hle : e ≤ s.size a - d.sliceSizes a) : d.start j idx a = e := by
  unfold GatherDims.start
  rw [dif_pos ha, hi, he, toInt_word e hlt]
  exact Nat.min_eq_left hle

/-- A gather reads the operand at `i` if on every axis its start, batching and offset coordinates add up to `i`'s. -/
theorem gather_at {s si t : Shape} (d : GatherDims s si t) (x : s.Idx → α) (idx : IVec si 32) (j : t.Idx) (i : s.Idx)
    (h : ∀ a, d.start j idx a + d.batchCoord j a + d.offCoord j a = (i a).val) : Host.gather d x idx j = x i :=
  congrArg x (funext fun a => Fin.ext (h a))

abbrev posGather := gather_S8x32768_S32768x2_S32768_n_01_n_n_01_1_11

/-- The gather of one word per row of pairs: row `n` reads the operand at its two words. -/
theorem gather_pair (x : S8x32768.Idx → α) (idx : IVec S32768x2 32) (n : Fin 32768) (e : Fin 8) (p : Fin 32768)
    (he : idx (ix2 n (0 : Fin 2)) = BitVec.ofNat 32 e.val) (hp : idx (ix2 n (1 : Fin 2)) = BitVec.ofNat 32 p.val) :
    Host.gather posGather x idx (ix1 n) = x (ix2 e p) := by
  refine gather_at _ x idx _ _ fun a => ?_
  rw [posGather.batchCoord_eq_zero _ _ List.not_mem_nil, posGather.offCoord_eq_zero _ _ (by revert a; decide)]
  match a with
  | ⟨0, _⟩ =>
    exact gather_start posGather _ idx 0 (by decide) (ix2 n (0 : Fin 2)) (funext fun b => by fin_cases b <;> rfl) _ he (by show e.val < 2 ^ 31; omega)
      (by show e.val ≤ 7; omega)
  | ⟨1, _⟩ =>
    exact gather_start posGather _ idx 1 (by decide) (ix2 n (1 : Fin 2)) (funext fun b => by fin_cases b <;> rfl) _ hp (by show p.val < 2 ^ 31; omega)
      (by show p.val ≤ 32767; omega)

abbrev rowGather := gather_S4096x1024_S32768x1_S32768x1024_1_0_n_n_0_1_11024

/-- The gather of whole rows: row `n` of the result is the operand's row at word `n`. -/
theorem gather_rows (x : S4096x1024.Idx → α) (idx : IVec S32768x1 32) (n : Fin 32768) (c : Fin 1024) (t : Fin 4096)
    (ht : idx (ix2 n (0 : Fin 1)) = BitVec.ofNat 32 t.val) :
    Host.gather rowGather x idx (ix2 n c) = x (ix2 t c) := by
  refine gather_at _ x idx _ _ fun a => ?_
  rw [rowGather.batchCoord_eq_zero _ _ List.not_mem_nil]
  match a with
  | ⟨0, _⟩ =>
    rw [rowGather.offCoord_eq_zero _ _ (by clear * -; decide +revert)]
    exact gather_start rowGather _ idx 0 (by decide) (ix2 n (0 : Fin 1)) (funext fun b => by fin_cases b <;> rfl) _ ht (by show t.val < 2 ^ 31; omega)
      (by show t.val ≤ 4095; omega)
  | ⟨1, _⟩ =>
    have h : rowGather.start (ix2 n c) idx 1 = 0 := by unfold GatherDims.start; exact dif_neg (by decide)
    have h' : rowGather.offCoord (ix2 n c) 1 = c.val := by unfold GatherDims.offCoord; rw [dif_pos (by decide)]; rfl
    exact (congrArg₂ (· + ·) (congrArg (· + 0) h) h').trans (by simp)

abbrev slotGather := gather_S8x512x1024_S32768x2_S32768x1024_1_01_n_n_01_1_111024

/-- The gather of rows by expert and slot: row `n` of the result is the operand's row at its two words. -/
theorem gather_slots (x : S8x512x1024.Idx → α) (idx : IVec S32768x2 32) (n : Fin 32768) (c : Fin 1024) (e : Fin 8) (s : Fin 512)
    (he : idx (ix2 n (0 : Fin 2)) = BitVec.ofNat 32 e.val) (hs : idx (ix2 n (1 : Fin 2)) = BitVec.ofNat 32 s.val) :
    Host.gather slotGather x idx (ix2 n c) = x (ix3 e s c) := by
  refine gather_at _ x idx _ _ fun a => ?_
  rw [slotGather.batchCoord_eq_zero _ _ List.not_mem_nil]
  match a with
  | ⟨0, _⟩ =>
    rw [slotGather.offCoord_eq_zero _ _ (by clear * -; decide +revert)]
    exact gather_start slotGather _ idx 0 (by decide) (ix2 n (0 : Fin 2)) (funext fun b => by fin_cases b <;> rfl) _ he (by show e.val < 2 ^ 31; omega)
      (by show e.val ≤ 7; omega)
  | ⟨1, _⟩ =>
    rw [slotGather.offCoord_eq_zero _ _ (by clear * -; decide +revert)]
    exact gather_start slotGather _ idx 1 (by decide) (ix2 n (1 : Fin 2)) (funext fun b => by fin_cases b <;> rfl) _ hs (by show s.val < 2 ^ 31; omega)
      (by show s.val ≤ 511; omega)
  | ⟨2, _⟩ =>
    have h : slotGather.start (ix2 n c) idx 2 = 0 := by unfold GatherDims.start; exact dif_neg (by decide)
    have h' : slotGather.offCoord (ix2 n c) 2 = c.val := by unfold GatherDims.offCoord; rw [dif_pos (by decide)]; rfl
    exact (congrArg₂ (· + ·) (congrArg (· + 0) h) h').trans (by simp)

/-- A scatter's start on an axis its map names, at the word read there. -/
theorem scatter_start {s si u : Shape} (d : ScatterDims s si u) (j : u.Idx) (idx : IVec si 32) (a : Fin s.rank)
    (ha : a ∈ d.scatterDimsToOperandDims) (i : si.Idx)
    (hi : d.siIdx j ⟨d.scatterDimsToOperandDims.idxOf a, List.idxOf_lt_length_iff.2 ha⟩ = i) (e : ℕ)
    (he : idx i = BitVec.ofNat 32 e) (hlt : e < 2 ^ 31) : d.start j idx a = (e : Int) := by
  unfold ScatterDims.start
  rw [dif_pos ha, hi, he, toInt_word e hlt]

/-- A scatter's window coordinate on an inserted axis is zero. -/
theorem scatter_window_zero {s si u : Shape} (d : ScatterDims s si u) (j : u.Idx) (a : Fin s.rank) (ha : a ∉ d.sKept) :
    d.window j a = 0 := by
  unfold ScatterDims.window; exact dif_neg ha

abbrev bufScatter := scatter_S8x512x1024_S32768x2_S32768x1024_1_01_01_1

/-- Where an update of the token buffer's scatter lands: at the expert and the slot its words name, in its own column. -/
theorem lands_buf (idx : IVec S32768x2 32) (n : Fin 32768) (c : Fin 1024) (e s : ℕ) (he8 : e < 8) (hs512 : s < 512)
    (he : idx (ix2 n (0 : Fin 2)) = BitVec.ofNat 32 e) (hs : idx (ix2 n (1 : Fin 2)) = BitVec.ofNat 32 s)
    (e' : Fin 8) (s' : Fin 512) (c' : Fin 1024) :
    bufScatter.resultIdx? (ix2 n c) idx = some (ix3 e' s' c') ↔ e = e'.val ∧ s = s'.val ∧ c = c' := by
  rw [Routing.resultIdx?_eq_some]
  have h0 : bufScatter.start (ix2 n c) idx 0 = (e : Int) :=
    scatter_start bufScatter _ idx 0 (by decide) (ix2 n (0 : Fin 2)) (funext fun b => by fin_cases b <;> rfl) _ he (by omega)
  have h1 : bufScatter.start (ix2 n c) idx 1 = (s : Int) :=
    scatter_start bufScatter _ idx 1 (by decide) (ix2 n (1 : Fin 2)) (funext fun b => by fin_cases b <;> rfl) _ hs (by omega)
  have h2 : bufScatter.start (ix2 n c) idx 2 = 0 := by unfold ScatterDims.start; exact dif_neg (by decide)
  have w0 : bufScatter.window (ix2 n c) 0 = 0 := scatter_window_zero _ _ _ (by decide)
  have w1 : bufScatter.window (ix2 n c) 1 = 0 := scatter_window_zero _ _ _ (by decide)
  have w2 : bufScatter.window (ix2 n c) 2 = c.val := by unfold ScatterDims.window; rw [dif_pos (by decide)]; rfl
  constructor
  · intro h
    have a0 : bufScatter.start (ix2 n c) idx 0 + (bufScatter.window (ix2 n c) 0 : Int) = (e'.val : Int) := h 0
    have a1 : bufScatter.start (ix2 n c) idx 1 + (bufScatter.window (ix2 n c) 1 : Int) = (s'.val : Int) := h 1
    have a2 : bufScatter.start (ix2 n c) idx 2 + (bufScatter.window (ix2 n c) 2 : Int) = (c'.val : Int) := h 2
    rw [h0, w0] at a0
    rw [h1, w1] at a1
    rw [h2, w2] at a2
    exact ⟨by omega, by omega, Fin.ext (by omega)⟩
  · rintro ⟨q0, q1, q2⟩ a
    match a with
    | ⟨0, _⟩ =>
      show bufScatter.start (ix2 n c) idx 0 + (bufScatter.window (ix2 n c) 0 : Int) = (e'.val : Int)
      rw [h0, w0]; omega
    | ⟨1, _⟩ =>
      show bufScatter.start (ix2 n c) idx 1 + (bufScatter.window (ix2 n c) 1 : Int) = (s'.val : Int)
      rw [h1, w1]; omega
    | ⟨2, _⟩ =>
      show bufScatter.start (ix2 n c) idx 2 + (bufScatter.window (ix2 n c) 2 : Int) = (c'.val : Int)
      rw [h2, w2, q2]; omega

abbrev rowScatter := scatter_S4096x1024_S32768x1_S32768x1024_1_0_0_1

/-- Where an update of the output's scatter lands: at the row its word names, in its own column. -/
theorem lands_row (idx : IVec S32768x1 32) (n : Fin 32768) (c : Fin 1024) (t : ℕ) (ht4096 : t < 4096)
    (ht : idx (ix2 n (0 : Fin 1)) = BitVec.ofNat 32 t) (t' : Fin 4096) (c' : Fin 1024) :
    rowScatter.resultIdx? (ix2 n c) idx = some (ix2 t' c') ↔ t = t'.val ∧ c = c' := by
  rw [Routing.resultIdx?_eq_some]
  have h0 : rowScatter.start (ix2 n c) idx 0 = (t : Int) :=
    scatter_start rowScatter _ idx 0 (by decide) (ix2 n (0 : Fin 1)) (funext fun b => by fin_cases b <;> rfl) _ ht (by omega)
  have h1 : rowScatter.start (ix2 n c) idx 1 = 0 := by unfold ScatterDims.start; exact dif_neg (by decide)
  have w0 : rowScatter.window (ix2 n c) 0 = 0 := scatter_window_zero _ _ _ (by decide)
  have w1 : rowScatter.window (ix2 n c) 1 = c.val := by unfold ScatterDims.window; rw [dif_pos (by decide)]; rfl
  constructor
  · intro h
    have a0 : rowScatter.start (ix2 n c) idx 0 + (rowScatter.window (ix2 n c) 0 : Int) = (t'.val : Int) := h 0
    have a1 : rowScatter.start (ix2 n c) idx 1 + (rowScatter.window (ix2 n c) 1 : Int) = (c'.val : Int) := h 1
    rw [h0, w0] at a0
    rw [h1, w1] at a1
    exact ⟨by omega, Fin.ext (by omega)⟩
  · rintro ⟨q0, q1⟩ a
    match a with
    | ⟨0, _⟩ =>
      show rowScatter.start (ix2 n c) idx 0 + (rowScatter.window (ix2 n c) 0 : Int) = (t'.val : Int)
      rw [h0, w0]; omega
    | ⟨1, _⟩ =>
      show rowScatter.start (ix2 n c) idx 1 + (rowScatter.window (ix2 n c) 1 : Int) = (c'.val : Int)
      rw [h1, w1, q1]; omega

abbrev countScatter := scatter_S9_S32768x1_S32768_n_0_0_1

/-- Where an update of the expert counts' scatter lands: at the expert its word names. -/
theorem lands_count (idx : IVec S32768x1 32) (n : Fin 32768) (e : ℕ) (he9 : e < 9)
    (he : idx (ix2 n (0 : Fin 1)) = BitVec.ofNat 32 e) (e' : Fin 9) :
    countScatter.resultIdx? (ix1 n) idx = some (ix1 e') ↔ e = e'.val := by
  rw [Routing.resultIdx?_eq_some]
  have h0 : countScatter.start (ix1 n) idx 0 = (e : Int) :=
    scatter_start countScatter _ idx 0 (by decide) (ix2 n (0 : Fin 1)) (funext fun b => by fin_cases b <;> rfl) _ he (by omega)
  have w0 : countScatter.window (ix1 n) 0 = 0 := scatter_window_zero _ _ _ (by decide)
  constructor
  · intro h
    have a0 : countScatter.start (ix1 n) idx 0 + (countScatter.window (ix1 n) 0 : Int) = (e'.val : Int) := h 0
    rw [h0, w0] at a0
    omega
  · rintro q0 a
    match a with
    | ⟨0, _⟩ =>
      show countScatter.start (ix1 n) idx 0 + (countScatter.window (ix1 n) 0 : Int) = (e'.val : Int)
      rw [h0, w0]; omega

abbrev maskScatter := scatter_S4096x8_S32768x2_S32768_n_01_01_1

/-- Where an update of the expert mask's scatter lands: at the token and the expert its words name. -/
theorem lands_mask (idx : IVec S32768x2 32) (n : Fin 32768) (t e : ℕ) (ht4096 : t < 4096) (he8 : e < 8)
    (ht : idx (ix2 n (0 : Fin 2)) = BitVec.ofNat 32 t) (he : idx (ix2 n (1 : Fin 2)) = BitVec.ofNat 32 e) (t' : Fin 4096) (e' : Fin 8) :
    maskScatter.resultIdx? (ix1 n) idx = some (ix2 t' e') ↔ t = t'.val ∧ e = e'.val := by
  rw [Routing.resultIdx?_eq_some]
  have h0 : maskScatter.start (ix1 n) idx 0 = (t : Int) :=
    scatter_start maskScatter _ idx 0 (by decide) (ix2 n (0 : Fin 2)) (funext fun b => by fin_cases b <;> rfl) _ ht (by omega)
  have h1 : maskScatter.start (ix1 n) idx 1 = (e : Int) :=
    scatter_start maskScatter _ idx 1 (by decide) (ix2 n (1 : Fin 2)) (funext fun b => by fin_cases b <;> rfl) _ he (by omega)
  have w0 : maskScatter.window (ix1 n) 0 = 0 := scatter_window_zero _ _ _ (by decide)
  have w1 : maskScatter.window (ix1 n) 1 = 0 := scatter_window_zero _ _ _ (by decide)
  constructor
  · intro h
    have a0 : maskScatter.start (ix1 n) idx 0 + (maskScatter.window (ix1 n) 0 : Int) = (t'.val : Int) := h 0
    have a1 : maskScatter.start (ix1 n) idx 1 + (maskScatter.window (ix1 n) 1 : Int) = (e'.val : Int) := h 1
    rw [h0, w0] at a0
    rw [h1, w1] at a1
    exact ⟨by omega, by omega⟩
  · rintro ⟨q0, q1⟩ a
    match a with
    | ⟨0, _⟩ =>
      show maskScatter.start (ix1 n) idx 0 + (maskScatter.window (ix1 n) 0 : Int) = (t'.val : Int)
      rw [h0, w0]; omega
    | ⟨1, _⟩ =>
      show maskScatter.start (ix1 n) idx 1 + (maskScatter.window (ix1 n) 1 : Int) = (e'.val : Int)
      rw [h1, w1]; omega

end Cert.ReferenceIdeal.Hand

end
-- ==== Proof.RefCount.lean ====
/- Counting occurrences in the reference's list of 32768 choices: token `t`'s eight choices are entries
   `8 t … 8 t + 7` and name every expert once. -/
module

public import proofs.«01_k».proof.Proof.RefIndex
public import Idealize.ShloMosaic.Lib.Routing.Ops

@[expose] public section

set_option maxRecDepth 16384

noncomputable section

namespace Cert.ReferenceIdeal.Hand

open Cert.ReferenceIdeal Cert.ReferenceIdeal.Gen
open Idealize.ShloMosaic

/-- Whether choice number `i` names expert `e`, as 0 or 1, when token `t`'s place `j` names `q t j`. -/
def hits (q : ℕ → Fin 8 → Fin 8) (e : Fin 8) (i : ℕ) : ℕ :=
  if q (i / 8) ⟨i % 8, Nat.mod_lt _ (by decide)⟩ = e then 1 else 0

/-- Choice `8 t + j` is place `j` of token `t`. -/
theorem hits_place (q : ℕ → Fin 8 → Fin 8) (e : Fin 8) (t : ℕ) (j : Fin 8) :
    hits q e (8 * t + j.val) = if q t j = e then 1 else 0 := by
  have hj := j.isLt
  have h1 : (8 * t + j.val) / 8 = t := by omega
  have h2 : (⟨(8 * t + j.val) % 8, Nat.mod_lt _ (by decide)⟩ : Fin 8) = j := Fin.ext (by show (8 * t + j.val) % 8 = j.val; omega)
  unfold hits
  rw [h2, h1]

/-- The first `t` tokens name each expert `t` times. -/
theorem hits_tokens (q : ℕ → Fin 8 → Fin 8) (hq : ∀ t, Function.Bijective (q t)) (e : Fin 8) (t : ℕ) :
    ∑ i ∈ Finset.range (8 * t), hits q e i = t := by
  induction t with
  | zero => simp
  | succ t ih =>
    rw [Nat.mul_succ, Finset.sum_range_add, ih, Finset.sum_range]
    obtain ⟨j, hj⟩ := (hq t).2 e
    rw [Finset.sum_eq_single j]
    · rw [hits_place, if_pos hj]
    · intro k _ hk
      rw [hits_place, if_neg fun h => hk ((hq t).1 (h.trans hj.symm))]
    · exact fun h => absurd (Finset.mem_univ _) h

/-- When choice `n` names expert `e`, the choices up to it have named `e` once more than there are earlier tokens. -/
theorem hits_upto (q : ℕ → Fin 8 → Fin 8) (hq : ∀ t, Function.Bijective (q t)) (n : ℕ) :
    ∑ i ∈ Finset.range (n + 1), hits q (q (n / 8) ⟨n % 8, Nat.mod_lt _ (by decide)⟩) i = n / 8 + 1 := by
  have hn : n + 1 = 8 * (n / 8) + (n % 8 + 1) := by omega
  rw [hn, Finset.sum_range_add, hits_tokens q hq, Finset.sum_range]
  refine congrArg (n / 8 + ·) ?_
  have h8 : n % 8 < 8 := Nat.mod_lt _ (by decide)
  rw [Finset.sum_eq_single (Fin.last (n % 8))]
  · exact (hits_place q _ (n / 8) ⟨n % 8, h8⟩).trans (if_pos rfl)
  · intro k _ hk
    have hk' : k.val < 8 := by omega
    refine (hits_place q _ (n / 8) ⟨k.val, hk'⟩).trans (if_neg fun h => hk (Fin.ext ?_))
    have hplace : (⟨k.val, hk'⟩ : Fin 8) = ⟨n % 8, h8⟩ := (hq _).1 h
    exact Fin.mk.inj hplace
  · exact fun h => absurd (Finset.mem_univ _) h

/-- A running sum along the second axis of an eight-row table is, in each row, the running sum of that row. -/
theorem running_row {N Nm1 : ℕ} (x : IVec ⟨2, ![8, N]⟩ 32) (init : IVec S_ 32)
    (h : (⟨2, ![8, N]⟩ : Shape).ReduceWindows (![1, N] : Fin 2 → Nat) ![1, 1] ![0, Nm1] ![0, 0] (⟨2, ![8, N]⟩ : Shape)) (hu : 0 < S_.numel)
    (h' : ((⟨2, ![1, N]⟩ : Shape)).ReduceWindows (![1, N] : Fin 2 → Nat) ![1, 1] ![0, Nm1] ![0, 0] ((⟨2, ![1, N]⟩ : Shape)))
    (e : Fin 8) (n : Fin N) :
    Host.reduceWindow IntOp.addi ![1, N] ![1, 1] ![0, Nm1] ![0, 0] x init h hu (ix2 e n)
      = Host.reduceWindow IntOp.addi ![1, N] ![1, 1] ![0, Nm1] ![0, 0]
          (fun i : ((⟨2, ![1, N]⟩ : Shape)).Idx => x (ix2 e (i 1))) init h' hu (ix2 (0 : Fin 1) n) := by
  unfold Host.reduceWindow
  refine congrArg (fun g => List.foldl g _ _) (funext fun r => funext fun k => congrArg (IntOp.addi r) ?_)
  have h0 : ((⟨2, ![1, N]⟩ : Shape).rowMajor.symm k 0).val = 0 := by
    have := ((⟨2, ![1, N]⟩ : Shape).rowMajor.symm k 0).isLt
    change _ < 1 at this
    omega
  have he := e.isLt
  have hn := n.isLt
  dsimp only
  split
  · next hin =>
    have h1 := hin 1
    rw [dif_pos]
    · refine congrArg x (funext fun a => ?_)
      match a with
      | ⟨0, _⟩ =>
        refine Fin.ext ?_
        show e.val * 1 + ((⟨2, ![1, N]⟩ : Shape).rowMajor.symm k 0).val - 0 = e.val
        omega
      | ⟨1, _⟩ => rfl
    · intro a
      match a with
      | ⟨0, _⟩ =>
        show 0 ≤ 0 * 1 + ((⟨2, ![1, N]⟩ : Shape).rowMajor.symm k 0).val ∧ 0 * 1 + ((⟨2, ![1, N]⟩ : Shape).rowMajor.symm k 0).val - 0 < 1
        omega
      | ⟨1, _⟩ => exact h1
  · next hin =>
    rw [dif_neg]
    intro hin'
    refine hin fun a => ?_
    match a with
    | ⟨0, _⟩ =>
      show 0 ≤ e.val * 1 + ((⟨2, ![1, N]⟩ : Shape).rowMajor.symm k 0).val ∧ e.val * 1 + ((⟨2, ![1, N]⟩ : Shape).rowMajor.symm k 0).val - 0 < 8
      omega
    | ⟨1, _⟩ => exact hin' 1

/-- Entry `(e, n)` of the running sum of a table that holds 1 where the choice names the row's expert. -/
theorem running_hits (q : ℕ → Fin 8 → Fin 8) (x : IVec S8x32768 32)
    (hx : ∀ (e : Fin 8) (n : Fin 32768), x (ix2 e n) = BitVec.ofNat 32 (hits q e n.val)) (init : IVec S_ 32) (hinit : ∀ i, init i = 0#32)
    (h : S8x32768.ReduceWindows (![1, 32768] : Fin 2 → Nat) ![1, 1] ![0, 32767] ![0, 0] S8x32768) (hu : 0 < S_.numel)
    (e : Fin 8) (n : Fin 32768) :
    Host.reduceWindow IntOp.addi ![1, 32768] ![1, 1] ![0, 32767] ![0, 0] x init h hu (ix2 e n)
      = BitVec.ofNat 32 (∑ i ∈ Finset.range (n.val + 1), hits q e i) := by
  rw [running_row x init h hu ⟨rfl, fun a => by fin_cases a <;> simp⟩ e n]
  refine (Routing.cumsum2 (by decide) _ (hits q e) (fun i => hx e i) init (hinit _) _ hu n).trans ?_
  exact congrArg (BitVec.ofNat 32) rfl

end Cert.ReferenceIdeal.Hand

end
-- ==== Proof.RefWords.lean ====
/- The words that route the reference's tokens: positions in the experts' queues, the in-capacity test, token
   numbers, slots. Choice `n` belongs to token `n / 8`; the queue of every expert is the tokens in order, so its
   position is `n / 8` too. -/
module

public import proofs.«01_k».proof.Proof.RefCount
public import Idealize.ShloMosaic.Lib.Tactic.CleanTypes
public import Idealize.ShloMosaic.Lib.WordCmp
public import Idealize.ShloMosaic.Lib.PlanTiles.Rows

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.StableHlo

/-- The expert that choice number `n` names. -/
abbrev choice (q : ℕ → Fin 8 → Fin 8) (n : ℕ) : Fin 8 := q (n / 8) ⟨n % 8, Nat.mod_lt _ (by decide)⟩

/-- jnp's reading of a negative index from the end: `w` is added to it. -/
def wrapped (w : BitVec 32) (x : IVec S32768 32) : IVec S32768 32 :=
  select (cmpi .slt x (broadcastInDim S32768 ![] bcast_S_S32768 (constantI S_ 32 0#32)))
    (addi x (broadcastInDim S32768 ![] bcast_S_S32768 (constantI S_ 32 w))) x

/-- A small natural's word is left as it is. -/
theorem wrapped_at (w : BitVec 32) (x : IVec S32768 32) (n : Fin 32768) (k : ℕ) (hk : k < 2 ^ 31) (hx : x (ix1 n) = BitVec.ofNat 32 k) :
    wrapped w x (ix1 n) = BitVec.ofNat 32 k := by
  unfold wrapped
  pointwise
  rw [hx]
  exact Routing.wrap_of_lt _ _ (by rw [BitVec.toNat_ofNat]; omega)

/-- A list of words as a one-column table. -/
def columnOf (x : IVec S32768 32) : IVec S32768x1 32 := broadcastInDim S32768x1 ![0] bcast_S32768_S32768x1_0 x

/-- Its entries. -/
theorem columnOf_at (x : IVec S32768 32) (n : Fin 32768) : columnOf x (ix2 n (0 : Fin 1)) = x (ix1 n) := by
  unfold columnOf
  pointwise

/-- Two lists of words as a two-column table. -/
def pairOf (x y : IVec S32768 32) : IVec S32768x2 32 :=
  concatenate S32768x2 1 [⟨S32768x1, columnOf x⟩, ⟨S32768x1, columnOf y⟩] concatenates_S32768x1_S32768x1_S32768x2_d1

/-- Its first column. -/
theorem pairOf_fst (x y : IVec S32768 32) (n : Fin 32768) : pairOf x y (ix2 n (0 : Fin 2)) = x (ix1 n) := by
  unfold pairOf columnOf
  pointwise

/-- Its second column. -/
theorem pairOf_snd (x y : IVec S32768 32) (n : Fin 32768) : pairOf x y (ix2 n (1 : Fin 2)) = y (ix1 n) := by
  unfold pairOf columnOf
  pointwise

/-- The table whose row `e` marks, with ones, the choices that name expert `e`. -/
theorem marks_at (q : ℕ → Fin 8 → Fin 8) (x : IVec S32768 32) (hx : ∀ n : Fin 32768, x (ix1 n) = BitVec.ofNat 32 (choice q n.val).val)
    (e : Fin 8) (n : Fin 32768) :
    extui 32 (cmpi .eq (broadcastInDim S8x32768 ![0, 1] bcast_S1x32768_S8x32768_0_1 (broadcastInDim S1x32768 ![1] bcast_S32768_S1x32768_1 x))
      (broadcastInDim S8x32768 ![0, 1] bcast_S8x1_S8x32768_0_1 (broadcastInDim S8x1 ![0] bcast_S8_S8x1_0 (iotaInDim S8 32 0)))) natLt_1_32 (ix2 e n)
      = BitVec.ofNat 32 (hits q e n.val) := by
  pointwise
  rw [hx]
  change _ = BitVec.ofNat 32 (if choice q n.val = e then 1 else 0)
  generalize choice q n.val = c
  clear * -
  decide +revert

variable (q : ℕ → Fin 8 → Fin 8) (hq : ∀ t, Function.Bijective (q t)) (V : Valuation τ sig (Elt Ideal))
  (h23 : ∀ n : Fin 32768, (res_main_v23 V : IVec S32768 32) (ix1 n) = BitVec.ofNat 32 (choice q n.val).val)

include hq h23 in
/-- A choice's position in its expert's queue: the number of earlier tokens. -/
theorem v49_at (n : Fin 32768) : (res_main_v49 V : IVec S32768 32) (ix1 n) = BitVec.ofNat 32 (n.val / 8) := by
  unfold res_main_v49
  have hn := n.isLt
  refine (gather_pair _ (pairOf (wrapped 8#32 (res_main_v23 V)) (wrapped 32768#32 (res_main_v35 V))) n (choice q n.val) n ?_ ?_).trans ?_
  · rw [pairOf_fst]
    exact wrapped_at _ _ n _ (by omega) (h23 n)
  · rw [pairOf_snd]
    exact wrapped_at _ _ n _ (by omega) rfl
  · refine (congrArg (fun v => IntOp.subi v 1#32) (running_hits q _ (marks_at q _ h23) _ (fun _ => rfl) _ _ (choice q n.val) n)).trans ?_
    rw [hits_upto q hq]
    refine BitVec.eq_of_toNat_eq ?_
    show (BitVec.ofNat 32 (n.val / 8 + 1) - 1#32).toNat = (BitVec.ofNat 32 (n.val / 8)).toNat
    rw [BitVec.toNat_sub, BitVec.toNat_ofNat, BitVec.toNat_ofNat, BitVec.toNat_ofNat]
    omega

/-- A one-bit comparison of a small natural's word with 512, as a float. -/
theorem below_512 (k : ℕ) (hk : k < 4096) :
    (FloatOps.uitofp FTy.f32 (IntOp.cmpi CmpIPredicate.slt (BitVec.ofNat 32 k) 512#32) : Ideal .f32) = (if k < 512 then 1 else 0 : EReal) := by
  rw [show (512#32 : BitVec 32) = BitVec.ofNat 32 512 from rfl, WordCmp.cmpi_slt_ofNat (by omega) (by decide)]
  by_cases h : k < 512
  · rw [if_pos h, decide_eq_true h]
    show (((1#1 : BitVec 1).toNat : ℝ) : EReal) = 1
    simp
  · rw [if_neg h, decide_eq_false h]
    show (((0#1 : BitVec 1).toNat : ℝ) : EReal) = 0
    simp

/-- Floor division by eight of a small natural's word, as jnp spells it. -/
theorem floor_eight (n : ℕ) (hn : n < 32768) :
    Scalar.select
      (IntOp.andi
        (IntOp.cmpi CmpIPredicate.ne
          (if BitVec.ofNat 32 n = 0 then (0 : BitVec 32) else if (BitVec.ofNat 32 n).msb = true then -1 else 1)
          (if 8#32 = 0 then (0 : BitVec 32) else if BitVec.msb 8#32 = true then -1 else 1))
        (IntOp.cmpi CmpIPredicate.ne (IntOp.remsi ArithUnit.host (BitVec.ofNat 32 n) 8#32) 0#32))
      (IntOp.subi (IntOp.divsi ArithUnit.host (BitVec.ofNat 32 n) 8#32) 1#32)
      (IntOp.divsi ArithUnit.host (BitVec.ofNat 32 n) 8#32) =
    BitVec.ofNat 32 (n / 8) := by
  have hm : (BitVec.ofNat 32 n).msb = false := by
    rw [BitVec.msb_eq_false_iff_two_mul_lt, BitVec.toNat_ofNat]
    omega
  have hc : ¬ IntOp.SDivCorner (BitVec.ofNat 32 n) 8#32 := by
    rintro (h | ⟨_, h⟩) <;> exact absurd h (by decide)
  have hdiv : IntOp.divsi ArithUnit.host (BitVec.ofNat 32 n) 8#32 = BitVec.ofNat 32 (n / 8) := by
    unfold IntOp.divsi
    rw [if_neg hc]
    simp only [BitVec.sdiv_eq, hm, show (8#32 : BitVec 32).msb = false by decide]
    refine BitVec.eq_of_toNat_eq ?_
    rw [BitVec.udiv_eq, BitVec.toNat_udiv, BitVec.toNat_ofNat, BitVec.toNat_ofNat, BitVec.toNat_ofNat, Nat.mod_eq_of_lt (by omega),
      Nat.mod_eq_of_lt (by decide), Nat.mod_eq_of_lt (by omega)]
  rw [hdiv]
  by_cases h0 : n = 0
  · subst h0
    decide
  · have hne : BitVec.ofNat 32 n ≠ 0 := fun h => by
      have := congrArg BitVec.toNat h
      rw [BitVec.toNat_ofNat] at this
      change n % 2 ^ 32 = 0 at this
      omega
    rw [if_neg hne, hm]
    generalize IntOp.remsi ArithUnit.host (BitVec.ofNat 32 n) 8#32 = r
    have hz : IntOp.andi (IntOp.cmpi CmpIPredicate.ne (if false = true then -1 else 1 : BitVec 32)
        (if (8#32 : BitVec 32) = 0 then 0 else if BitVec.msb 8#32 = true then -1 else 1)) (IntOp.cmpi CmpIPredicate.ne r 0#32) = 0#1 := by
      generalize IntOp.cmpi CmpIPredicate.ne r 0#32 = b
      revert b
      decide
    rw [hz]
    rfl

/-- The token of choice `n`. -/
theorem v54_at (n : Fin 32768) : (res_main_v54 V : IVec S32768 32) (ix1 n) = BitVec.ofNat 32 (n.val / 8) := by
  unfold res_main_v54 res_main_call1_v2 res_main_call1_v0 res_main_v53
  clean_types
  pointwise
  exact floor_eight n.val n.isLt

include hq h23 in
/-- Whether choice `n` is within its expert's capacity, as a float. -/
theorem v52_at (n : Fin 32768) : (res_main_v52 V : FVec Ideal S32768 .f32) (ix1 n) = (if n.val / 8 < 512 then 1 else 0 : EReal) := by
  have h49 := v49_at q hq V h23 n
  have hn := n.isLt
  revert h49
  unfold res_main_v52 res_main_v51
  generalize res_main_v49 V = x
  change IVec S32768 32 at x
  intro h49
  pointwise
  rw [h49]
  exact below_512 _ (by omega)

include hq h23 in
/-- The slot of choice `n`: its position, kept below the capacity. -/
theorem v56_at (n : Fin 32768) : (res_main_v56 V : IVec S32768 32) (ix1 n) = BitVec.ofNat 32 (min (n.val / 8) 511) := by
  have h49 := v49_at q hq V h23 n
  have hn := n.isLt
  revert h49
  unfold res_main_v56
  generalize res_main_v49 V = x
  change IVec S32768 32 at x
  intro h49
  pointwise
  rw [h49]
  refine (PlanTiles.minsi_word (by omega) (by decide)).trans ?_
  rw [Nat.min_comm]

include hq h23 in
/-- The counting bin of choice `n`: its expert, or the spare bin when it is beyond the capacity. -/
theorem v85_at (n : Fin 32768) : (res_main_v85 V : IVec S32768 32) (ix1 n) = BitVec.ofNat 32 (if n.val / 8 < 512 then (choice q n.val).val else 8) := by
  have h49 := v49_at q hq V h23 n
  have h23n := h23 n
  have hn := n.isLt
  revert h49 h23n
  unfold res_main_v85 res_main_v51
  generalize res_main_v49 V = x
  change IVec S32768 32 at x
  generalize res_main_v23 V = y
  change IVec S32768 32 at y
  intro h49 h23n
  pointwise
  rw [h49, h23n, show (512#32 : BitVec 32) = BitVec.ofNat 32 512 from rfl, WordCmp.cmpi_slt_ofNat (by omega) (by decide)]
  generalize choice q n.val = e
  by_cases h : n.val / 8 < 512
  · rw [if_pos h, decide_eq_true h]
    show IntOp.maxsi 0#32 (BitVec.ofNat 32 e.val) = BitVec.ofNat 32 e.val
    clear * -
    decide +revert
  · rw [if_neg h, decide_eq_false h]
    show IntOp.maxsi 0#32 8#32 = 8#32
    decide

/-- The token of choice `n`, in the load balance's mask. -/
theorem v157_at (n : Fin 32768) : (res_main_v157 V : IVec S32768 32) (ix1 n) = BitVec.ofNat 32 (n.val / 8) := by
  unfold res_main_v157
  clean_types
  pointwise

end Cert.ReferenceIdeal.Hand

end
-- ==== Proof.RefGate.lean ====
/- The reference's gate: its scores, the order it lists the experts in, and the factor each choice carries. -/
module

public import proofs.«01_k».proof.Proof.RefOrder
public import proofs.«01_k».proof.Proof.RefWords
public import proofs.«01_k».proof.Proof.Model

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo

variable (V : Valuation τ sig (Elt Ideal))

/-- The tokens, by their number. -/
def tokens (t : Fin 4096) (k : Fin 1024) : EReal :=
  V (Proc.devRef .tc main_arg0) (ix3 (⟨t.val / 2048, by omega⟩ : Fin 2) (⟨t.val % 2048, by omega⟩ : Fin 2048) k)

/-- The gate's rows. -/
def gate (e : Fin 8) (k : Fin 1024) : EReal := V (Proc.devRef .tc main_arg1) (ix2 e k)

/-- The first layers' rows. -/
def up (e : Fin 8) (f : Fin 2048) (k : Fin 1024) : EReal := V (Proc.devRef .tc main_arg3) (ix3 e f k)

/-- The second layers' rows. -/
def down (e : Fin 8) (d : Fin 1024) (f : Fin 2048) : EReal := V (Proc.devRef .tc main_arg5) (ix3 e d f)

/-- The gate's bias. -/
def gateBias (e : Fin 8) : EReal := V (Proc.devRef .tc main_arg2) (ix1 e)

/-- The first layers' biases. -/
def upBias (e : Fin 8) (f : Fin 2048) : EReal := V (Proc.devRef .tc main_arg4) (ix2 e f)

/-- The second layers' biases. -/
def downBias (e : Fin 8) (d : Fin 1024) : EReal := V (Proc.devRef .tc main_arg6) (ix2 e d)

/-- The three biases are zero. -/
structure NoBias : Prop where
  gate : ∀ e, gateBias V e = 0
  up : ∀ e f, upBias V e f = 0
  down : ∀ e d, downBias V e d = 0

/-- A token's logits. -/
abbrev logits (t : Fin 4096) : Fin 8 → EReal := Model.logit (tokens V t) (gate V)

/-- The maximum with the fold's own starting value changes nothing. -/
theorem top_again (l : Fin 8 → EReal) :
    max (Ideal.ofBits FTy.f32 4286578688#32) (Finset.fold max (Ideal.ofBits FTy.f32 4286578688#32) l Finset.univ) = Model.top l :=
  max_eq_right ((Finset.le_fold_max _).2 (Or.inl le_rfl))

/-- The reference's softmax scores. -/
theorem v16_at (h : NoBias V) (t : Fin 4096) (e : Fin 8) : (res_main_v16 V : FVec Ideal S4096x8 .f32) (ix2 t e) = Model.score (logits V t) e := by
  have hl : ∀ e : Fin 8, (∑ k : Fin 1024, tokens V t k * gate V e k) + gateBias V e = logits V t e :=
    fun e => by rw [h.gate, add_zero]; rfl
  unfold res_main_v16 res_main_v12 res_main_v5 res_main_v0
  clean_types
  pointwise
  change Ideal.div (Ideal.exp ((∑ k : Fin 1024, tokens V t k * gate V e k) + gateBias V e
      - max _ (Finset.fold max _ (fun e => (∑ k : Fin 1024, tokens V t k * gate V e k) + gateBias V e) Finset.univ)))
    (∑ e, Ideal.exp ((∑ k : Fin 1024, tokens V t k * gate V e k) + gateBias V e
      - max _ (Finset.fold max _ (fun e => (∑ k : Fin 1024, tokens V t k * gate V e k) + gateBias V e) Finset.univ))) = _
  simp only [hl, top_again]
  rfl

/-- The expert that token `t` lists at place `j`. -/
def order (t : ℕ) (j : Fin 8) : Fin 8 := if ht : t < 4096 then listed (res_main_v16 V) ⟨t, ht⟩ j else j

/-- Every token lists every expert once. -/
theorem order_bijective (t : ℕ) : Function.Bijective (order V t) := by
  unfold order
  by_cases ht : t < 4096
  · simp only [dif_pos ht]
    exact listed_bijective _ _
  · simp only [dif_neg ht]
    exact Function.bijective_id

/-- A table of words, flattened, read at an entry. -/
theorem flat_at (w : IVec S4096x8 32) (n : Fin 32768) :
    shapeCast S32768 w shapeCasts_S4096x8_S32768 (ix1 n) = w (ix2 (⟨n.val / 8, by omega⟩ : Fin 4096) (⟨n.val % 8, by omega⟩ : Fin 8)) := by
  pointwise

/-- The reference's list of choices. -/
theorem v23_at (n : Fin 32768) : (res_main_v23 V : IVec S32768 32) (ix1 n) = BitVec.ofNat 32 (choice (order V) n.val).val := by
  have ht : n.val / 8 < 4096 := by omega
  have hc : choice (order V) n.val = listed (res_main_v16 V) ⟨n.val / 8, ht⟩ ⟨n.val % 8, Nat.mod_lt _ (by decide)⟩ := by
    unfold choice order
    exact dif_pos ht
  rw [hc]
  unfold res_main_v23
  generalize res_main_v16 V = s
  change FVec Ideal S4096x8 .f32 at s
  exact (flat_at _ n).trans (topK_indices s sliceFits_S4096x8_S4096x8 ⟨n.val / 8, ht⟩ ⟨n.val % 8, Nat.mod_lt _ (by decide)⟩)

/-- The listed scores. -/
theorem values_at (t : Fin 4096) (j : Fin 8) :
    (res_main_values V : FVec Ideal S4096x8 .f32) (ix2 t j) = (res_main_v16 V : FVec Ideal S4096x8 .f32) (ix2 t (order V t.val j)) := by
  have hc : order V t.val j = listed (res_main_v16 V) t j := dif_pos t.isLt
  rw [hc]
  exact topK_values _ _ t j

/-- The second normalisation of the listed scores, flattened to one entry per choice. -/
def factors (s : FVec Ideal S4096x8 .f32) : FVec Ideal S32768 .f32 :=
  shapeCast _ (Host.divf s (broadcastInDim S4096x8 ![0, 1] bcast_S4096x1_S4096x8_0_1
    (addf (broadcastInDim S4096x1 ![0] bcast_S4096_S4096x1_0 (Host.reduceAdd s (constant S_ .f32 0x00000000#32) reducesTo_S4096x8_S4096_d1 h_S_))
      (broadcastInDim S4096x1 ![] bcast_S_S4096x1 (constant S_ .f32 0x3089705F#32))))) shapeCasts_S4096x8_S32768

/-- Its entries. -/
theorem factors_at (s : FVec Ideal S4096x8 .f32) (n : Fin 32768) :
    factors s (ix1 n) = Ideal.div (s (ix2 (⟨n.val / 8, by omega⟩ : Fin 4096) (⟨n.val % 8, by omega⟩ : Fin 8)))
      (∑ j, s (ix2 (⟨n.val / 8, by omega⟩ : Fin 4096) j) + Model.eps) := by
  unfold factors
  pointwise
  rfl

/-- The factor a choice carries is the routing weight of the expert it names. -/
theorem factor_at (h : NoBias V) (n : Fin 32768) :
    factors (res_main_values V) (ix1 n) = Model.weight (logits V ⟨n.val / 8, by omega⟩) (choice (order V) n.val) := by
  rw [factors_at]
  simp only [values_at, v16_at V h]
  unfold Model.weight
  refine congrArg (fun z => Ideal.div _ (z + Model.eps)) ?_
  exact (Equiv.ofBijective _ (order_bijective V (n.val / 8))).sum_comp (fun e => Model.score (logits V ⟨n.val / 8, by omega⟩) e)

end Cert.ReferenceIdeal.Hand

end
-- ==== Proof.RefRows.lean ====
/- The reference's token buffer, hidden layer, row mask and expert answers, entry by entry. -/
module

public import proofs.«01_k».proof.Proof.RefGate
public import Idealize.ShloMosaic.Lib.Routing.OpsPair

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo

variable (V : Valuation τ sig (Elt Ideal))

/-- One number per choice, spread over a row. -/
def spread (x : FVec Ideal S32768 .f32) : FVec Ideal S32768x1024 .f32 :=
  broadcastInDim S32768x1024 ![0, 1] bcast_S32768x1_S32768x1024_0_1 (broadcastInDim S32768x1 ![0] bcast_S32768_S32768x1_0 x)

/-- Its entries. -/
theorem spread_at (x : FVec Ideal S32768 .f32) (n : Fin 32768) (c : Fin 1024) : spread x (ix2 n c) = x (ix1 n) := by
  unfold spread
  pointwise

/-- The token rows, one per choice, each times its choice's factor and in-capacity number. -/
def routed : FVec Ideal S32768x1024 .f32 :=
  mulf (Host.gather rowGather (res_main_v0 V) (columnOf (wrapped 4096#32 (res_main_v54 V))))
    (spread (mulf (factors (res_main_values V)) (res_main_v52 V)))

/-- The table of expert and slot words. -/
def places : IVec S32768x2 32 := pairOf (wrapped 8#32 (res_main_v23 V)) (wrapped 512#32 (res_main_v56 V))

/-- The token buffer: the routed rows added up at their experts and slots. -/
def buffer : FVec Ideal S8x512x1024 .f32 :=
  Host.scatterAdd bufScatter (broadcastInDim S8x512x1024 ![] bcast_S_S8x512x1024 (constant S_ .f32 0x00000000#32)) (places V) (routed V)

/-- The expert word of a choice. -/
theorem places_expert (n : Fin 32768) : places V (ix2 n (0 : Fin 2)) = BitVec.ofNat 32 (choice (order V) n.val).val := by
  unfold places
  rw [pairOf_fst]
  exact wrapped_at _ _ n _ (by omega) (v23_at V n)

/-- The slot word of a choice. -/
theorem places_slot (n : Fin 32768) : places V (ix2 n (1 : Fin 2)) = BitVec.ofNat 32 (min (n.val / 8) 511) := by
  unfold places
  rw [pairOf_snd]
  exact wrapped_at _ _ n _ (by omega) (v56_at _ (order_bijective V) V (v23_at V) n)

/-- The merged token array. -/
theorem v0_at (t : Fin 4096) (k : Fin 1024) : (res_main_v0 V : FVec Ideal S4096x1024 .f32) (ix2 t k) = tokens V t k := by
  unfold res_main_v0
  clean_types
  pointwise
  rfl

/-- The routed rows' entries. -/
theorem routed_at (h : NoBias V) (n : Fin 32768) (c : Fin 1024) :
    routed V (ix2 n c) = tokens V ⟨n.val / 8, by omega⟩ c
      * (Model.weight (logits V ⟨n.val / 8, by omega⟩) (choice (order V) n.val) * (if n.val / 8 < 512 then 1 else 0)) := by
  have hrow : Host.gather rowGather (res_main_v0 V) (columnOf (wrapped 4096#32 (res_main_v54 V))) (ix2 n c) = tokens V ⟨n.val / 8, by omega⟩ c :=
    (gather_rows _ _ n c ⟨n.val / 8, by omega⟩ (by
      rw [columnOf_at]
      exact wrapped_at _ _ n _ (by omega) (v54_at V n))).trans (v0_at V _ _)
  have hfac : spread (mulf (factors (res_main_values V)) (res_main_v52 V)) (ix2 n c)
      = Model.weight (logits V ⟨n.val / 8, by omega⟩) (choice (order V) n.val) * (if n.val / 8 < 512 then 1 else 0) := by
    rw [spread_at]
    exact congrArg₂ (· * ·) (factor_at V h n) (v52_at _ (order_bijective V) V (v23_at V) n)
  exact congrArg₂ (· * ·) hrow hfac

/-- The choice by which token `t` names expert `e`. -/
def chosen (t : Fin 4096) (e : Fin 8) : Fin 32768 :=
  ⟨8 * t.val + ((Equiv.ofBijective _ (order_bijective V t.val)).symm e).val, by omega⟩

/-- It is a choice of token `t`. -/
theorem chosen_token (t : Fin 4096) (e : Fin 8) : (chosen V t e).val / 8 = t.val := by
  unfold chosen
  dsimp only
  omega

/-- Place `j` of token `t`, as a choice, names the expert listed there. -/
theorem choice_place (t : ℕ) (j : Fin 8) : choice (order V) (8 * t + j.val) = order V t j := by
  have h1 : (8 * t + j.val) / 8 = t := by omega
  have h2 : (⟨(8 * t + j.val) % 8, Nat.mod_lt _ (by decide)⟩ : Fin 8) = j := Fin.ext (by show (8 * t + j.val) % 8 = j.val; omega)
  unfold choice
  rw [h2, h1]

/-- It names expert `e`. -/
theorem chosen_expert (t : Fin 4096) (e : Fin 8) : choice (order V) (chosen V t e).val = e :=
  (choice_place V t.val _).trans ((Equiv.ofBijective _ (order_bijective V t.val)).apply_symm_apply e)

/-- It is the only one. -/
theorem eq_chosen (n : Fin 32768) (t : Fin 4096) (ht : n.val / 8 = t.val) : n = chosen V t (choice (order V) n.val) := by
  refine Fin.ext ?_
  have hp : n.val = 8 * t.val + n.val % 8 := by omega
  have hs : (Equiv.ofBijective _ (order_bijective V t.val)).symm (choice (order V) n.val) = ⟨n.val % 8, Nat.mod_lt _ (by decide)⟩ := by
    rw [Equiv.symm_apply_eq]
    show choice (order V) n.val = order V t.val _
    unfold choice
    rw [ht]
  show n.val = 8 * t.val + ((Equiv.ofBijective _ (order_bijective V t.val)).symm (choice (order V) n.val)).val
  rw [hs]
  exact hp

/-- A float scatter of zeros: at each index, the sum of the updates that land there. -/
theorem scatterAdd_zeros {s si su : Shape} (d : ScatterDims s si su) (x : FVec Ideal s .f32) (idx : IVec si 32) (upd : FVec Ideal su .f32)
    (i : s.Idx) (hx : x i = (0 : EReal)) :
    Host.scatterAdd d x idx upd i = (∑ j ∈ Finset.univ.filter (fun j => d.resultIdx? j idx = some i), upd j : EReal) := by
  refine Eq.trans (b := x i + ∑ j ∈ Finset.univ.filter (fun j => d.resultIdx? j idx = some i), upd j) ?_ ?_
  · rfl
  · rw [hx, zero_add]

/-- The token buffer's entries: expert `e`'s slot `s` holds token `s`, times its routing weight for `e`. -/
theorem buffer_at (h : NoBias V) (e : Fin 8) (s : Fin 512) (c : Fin 1024) :
    buffer V (ix3 e s c) = tokens V ⟨s.val, by omega⟩ c * Model.weight (logits V ⟨s.val, by omega⟩) e := by
  have hs := s.isLt
  unfold buffer
  rw [scatterAdd_zeros _ _ _ _ _ Ideal.ofBits_zero_f32, Finset.sum_eq_single (ix2 (chosen V ⟨s.val, by omega⟩ e) c)]
  rotate_left
  · intro b hb hne
    obtain ⟨n, c', rfl⟩ : ∃ n c', b = ix2 n c' := ⟨b 0, b 1, (ix2_eta b).symm⟩
    have hl := (lands_buf (places V) n c' _ _ (by omega) (by omega) (places_expert V n) (places_slot V n) e s c).1 (Finset.mem_filter.1 hb).2
    obtain ⟨h1, h2, rfl⟩ := hl
    by_cases ht : n.val / 8 < 512
    · refine absurd ?_ hne
      have he : choice (order V) n.val = e := Fin.ext h1
      rw [← he, ← eq_chosen V n ⟨s.val, by omega⟩ (by show n.val / 8 = s.val; omega)]
    · rw [routed_at V h, if_neg ht, mul_zero, mul_zero]
  · intro hn
    refine absurd (Finset.mem_filter.2 ⟨Finset.mem_univ _, ?_⟩) hn
    have ht := chosen_token V ⟨s.val, by omega⟩ e
    have he := chosen_expert V ⟨s.val, by omega⟩ e
    refine (lands_buf (places V) _ c _ _ (by omega) (by omega) (places_expert V _) (places_slot V _) e s c).2 ⟨?_, ?_, rfl⟩
    · rw [he]
    · rw [ht]
      show min s.val 511 = s.val
      omega
  · have ht := chosen_token V ⟨s.val, by omega⟩ e
    have ht' : (⟨(chosen V ⟨s.val, by omega⟩ e).val / 8, by omega⟩ : Fin 4096) = ⟨s.val, by omega⟩ := Fin.ext ht
    rw [routed_at V h, ht', chosen_expert, if_pos (by rw [ht]; exact hs), mul_one]

end Cert.ReferenceIdeal.Hand

end
-- ==== Proof.RefAnswer.lean ====
/- The reference's first result, entry by entry: the routed network for the tokens within capacity, zero for the
   others. -/
module

public import proofs.«01_k».proof.Proof.RefRows

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo

/-- The first layer over a token buffer. -/
def firstLayer (x : FVec Ideal S8x512x1024 .f32) (w : FVec Ideal S8x2048x1024 .f32) (b : FVec Ideal S8x2048 .f32) : FVec Ideal S8x512x2048 .f32 :=
  addf (Host.dotGeneral dot_S8x512x1024_S8x2048x1024_S8x512x2048_2_2_1_1_0_0 none x w)
    (broadcastInDim S8x512x2048 ![0, 1, 2] bcast_S8x1x2048_S8x512x2048_0_1_2 (broadcastInDim S8x1x2048 ![0, 2] bcast_S8x2048_S8x1x2048_0_2 b))

/-- Its entries. -/
theorem firstLayer_at (x : FVec Ideal S8x512x1024 .f32) (w : FVec Ideal S8x2048x1024 .f32) (b : FVec Ideal S8x2048 .f32)
    (e : Fin 8) (s : Fin 512) (f : Fin 2048) :
    firstLayer x w b (ix3 e s f) = (∑ k : Fin 1024, x (ix3 e s k) * w (ix3 e f k)) + b (ix2 e f) := by
  unfold firstLayer
  pointwise

/-- The GELU and the second layer over a hidden array, each row times its mask. -/
def secondLayer (h : FVec Ideal S8x512x2048 .f32) (w : FVec Ideal S8x1024x2048 .f32) (b : FVec Ideal S8x1024 .f32) (k : FVec Ideal S8x512 .f32) :
    FVec Ideal S8x512x1024 .f32 :=
  mulf (addf (Host.dotGeneral dot_S8x512x2048_S8x1024x2048_S8x512x1024_2_2_1_1_0_0 none
      (mulf h (mulf (broadcastInDim S8x512x2048 ![] bcast_S_S8x512x2048 (constant S_ .f32 0x3F000000#32))
        (addf (broadcastInDim S8x512x2048 ![] bcast_S_S8x512x2048 (constant S_ .f32 0x3F800000#32))
          (Host.tanh (mulf (broadcastInDim S8x512x2048 ![] bcast_S_S8x512x2048 (constant S_ .f32 0x3F4C422A#32))
            (addf h (mulf (broadcastInDim S8x512x2048 ![] bcast_S_S8x512x2048 (constant S_ .f32 0x3D372713#32)) (mulf (mulf h h) h)))))))) w)
      (broadcastInDim S8x512x1024 ![0, 1, 2] bcast_S8x1x1024_S8x512x1024_0_1_2 (broadcastInDim S8x1x1024 ![0, 2] bcast_S8x1024_S8x1x1024_0_2 b)))
    (broadcastInDim S8x512x1024 ![0, 1, 2] bcast_S8x512x1_S8x512x1024_0_1_2 (broadcastInDim S8x512x1 ![0, 1] bcast_S8x512_S8x512x1_0_1 k))

/-- Its entries. -/
theorem secondLayer_at (h : FVec Ideal S8x512x2048 .f32) (w : FVec Ideal S8x1024x2048 .f32) (b : FVec Ideal S8x1024 .f32) (k : FVec Ideal S8x512 .f32)
    (e : Fin 8) (s : Fin 512) (d : Fin 1024) :
    secondLayer h w b k (ix3 e s d)
      = ((∑ f : Fin 2048, Model.gelu (h (ix3 e s f)) * w (ix3 e d f)) + b (ix2 e d)) * k (ix2 e s) := by
  simp only [← Model.gelu_eq]
  unfold secondLayer
  pointwise

/-- The numbers of choices within capacity, by expert, with a spare bin behind them. -/
def counts (x : IVec S32768 32) : IVec S9 32 :=
  Host.scatter countScatter IntOp.addi (broadcastInDim S9 ![] bcast_S_S9 (constantI S_ 32 0#32)) (columnOf (wrapped 9#32 x))
    (broadcastInDim S32768 ![] bcast_S_S32768 (constantI S_ 32 1#32))

/-- The mask of the slots below an expert's number of tokens. -/
def slotMask (n : IVec S9 32) : FVec Ideal S8x512 .f32 :=
  uitofp .f32 (cmpi .slt (broadcastInDim S8x512 ![0, 1] bcast_S1x512_S8x512_0_1 (broadcastInDim S1x512 ![1] bcast_S512_S1x512_1 (iotaInDim S512 32 0)))
    (broadcastInDim S8x512 ![0, 1] bcast_S8x1_S8x512_0_1 (broadcastInDim S8x1 ![0] bcast_S8_S8x1_0
      (minsi (extractStridedSlice S8 ![0] n slices_S9_S8_0) (broadcastInDim S8 ![] bcast_S_S8 (constantI S_ 32 512#32))))))

/-- With 512 tokens at every expert, the mask is one everywhere. -/
theorem slotMask_at (n : IVec S9 32) (hn : ∀ e : Fin 8, n (ix1 (⟨e.val, by omega⟩ : Fin 9)) = BitVec.ofNat 32 512) (e : Fin 8) (s : Fin 512) :
    slotMask n (ix2 e s) = (1 : EReal) := by
  have hs := s.isLt
  unfold slotMask
  pointwise
  refine (congrArg (fun v => (FloatOps.uitofp FTy.f32 (IntOp.cmpi CmpIPredicate.slt (BitVec.ofNat 32 s.val) (IntOp.minsi v 512#32)) : Ideal .f32)) (hn e)).trans ?_
  refine (below_512 s.val (by omega)).trans ?_
  rw [if_pos hs]

/-- Counting by a scatter of ones: each bin holds the number of choices that name it. -/
theorem counts_at (x : IVec S32768 32) (bin : ℕ → ℕ) (hb : ∀ n, bin n < 9) (hx : ∀ n : Fin 32768, x (ix1 n) = BitVec.ofNat 32 (bin n.val)) (e : Fin 9) :
    counts x (ix1 e) = BitVec.ofNat 32 (∑ n ∈ Finset.range 32768, if bin n = e.val then 1 else 0) := by
  unfold counts
  rw [Routing.scatter_at]
  have hfold := Routing.foldl_addi_ofNat (List.finRange S32768.numel) (fun n => if bin n.val = e.val then 1#32 else 0#32)
    (fun n => if bin n.val = e.val then 1 else 0) (fun n _ => by split <;> rfl) 0#32 0 rfl
  refine Eq.trans ?_ (hfold.trans ?_)
  · refine congrArg (fun g => List.foldl g _ _) (funext fun a => funext fun n => ?_)
    have hn : n.val < 32768 := (n.cast (Routing.numel1 32768)).isLt
    rw [show S32768.rowMajor.symm n = ix1 (⟨n.val, hn⟩ : Fin 32768) from Routing.symm1 (N := 32768) n]
    have hl := lands_count (columnOf (wrapped 9#32 x)) ⟨n.val, hn⟩ (bin n.val) (hb _)
      ((columnOf_at _ _).trans (wrapped_at _ _ _ _ (by have := hb n.val; omega) (hx ⟨n.val, hn⟩))) e
    by_cases h : bin n.val = e.val
    · rw [if_pos h, if_pos (hl.2 h)]
      rfl
    · rw [if_neg h, if_neg fun h' => h (hl.1 h')]
      exact (BitVec.add_zero a).symm
  · refine congrArg (BitVec.ofNat 32) ?_
    rw [Nat.zero_add, Routing.map_finRange_val _ (fun n => if bin n = e.val then 1 else 0), show S32768.numel = 32768 from Routing.numel1 32768]
    rfl

variable (V : Valuation τ sig (Elt Ideal))

/-- The bin of a choice: its expert, or the spare bin beyond the capacity. -/
def bin (n : ℕ) : ℕ := if n / 8 < 512 then (choice (order V) n).val else 8

/-- There are nine bins. -/
theorem bin_lt (n : ℕ) : bin V n < 9 := by
  unfold bin
  split <;> omega

/-- Every expert has 512 tokens within capacity. -/
theorem counts_full (e : Fin 8) : counts (res_main_v85 V) (ix1 (⟨e.val, by omega⟩ : Fin 9)) = BitVec.ofNat 32 512 := by
  rw [counts_at (res_main_v85 V) (bin V) (bin_lt V) (v85_at _ (order_bijective V) V (v23_at V))]
  refine congrArg (BitVec.ofNat 32) ?_
  rw [show 32768 = 8 * 512 + 28672 from rfl, Finset.sum_range_add]
  refine Eq.trans (congrArg₂ (· + ·) (Eq.trans (Finset.sum_congr rfl fun n hn => ?_) (hits_tokens (order V) (order_bijective V) e 512))
    (Finset.sum_eq_zero fun n hn => ?_)) (Nat.add_zero _)
  · have h8 : n < 8 * 512 := Finset.mem_range.1 hn
    have hb : bin V n = (choice (order V) n).val := if_pos (by omega)
    rw [hb]
    exact if_congr ⟨fun h => Fin.ext h, fun h => congrArg Fin.val h⟩ rfl rfl
  · have hb : bin V (8 * 512 + n) = 8 := if_neg (by omega)
    rw [hb]
    exact if_neg (by show ¬ 8 = e.val; omega)

/-- The hidden layer's entries. -/
theorem v100_at (h : NoBias V) (e : Fin 8) (s : Fin 512) (f : Fin 2048) :
    (res_main_v100 V : FVec Ideal S8x512x2048 .f32) (ix3 e s f)
      = Model.weight (logits V ⟨s.val, by omega⟩) e * ∑ k, tokens V ⟨s.val, by omega⟩ k * up V e f k := by
  refine (firstLayer_at (buffer V) (V (Proc.devRef .tc main_arg3)) (V (Proc.devRef .tc main_arg4)) e s f).trans ?_
  change (∑ k : Fin 1024, buffer V (ix3 e s k) * up V e f k) + upBias V e f = _
  rw [h.up, add_zero]
  simp only [buffer_at V h]
  exact Model.scaled_row _ _ _ _

/-- All experts' answers, by slot. -/
def answers : FVec Ideal S8x512x1024 .f32 :=
  secondLayer (res_main_v100 V) (V (Proc.devRef .tc main_arg5)) (V (Proc.devRef .tc main_arg6)) (slotMask (counts (res_main_v85 V)))

/-- Their entries. -/
theorem answers_at (h : NoBias V) (e : Fin 8) (s : Fin 512) (d : Fin 1024) :
    answers V (ix3 e s d)
      = Model.expert (Model.weight (logits V ⟨s.val, by omega⟩) e) (tokens V ⟨s.val, by omega⟩) (up V e) (down V e) d := by
  refine (secondLayer_at _ _ _ _ e s d).trans ?_
  rw [slotMask_at _ (counts_full V), mul_one]
  change (∑ f : Fin 2048, Model.gelu ((res_main_v100 V : FVec Ideal S8x512x2048 .f32) (ix3 e s f)) * down V e d f) + downBias V e d = _
  rw [h.down, add_zero]
  simp only [v100_at V h]
  rfl

/-- The answers, one row per choice, each times its in-capacity number. -/
def returned : FVec Ideal S32768x1024 .f32 :=
  mulf (Host.gather slotGather (answers V) (places V)) (spread (res_main_v52 V))

/-- Their entries. -/
theorem returned_at (h : NoBias V) (n : Fin 32768) (d : Fin 1024) :
    returned V (ix2 n d) = if n.val / 8 < 512 then
      Model.expert (Model.weight (logits V ⟨n.val / 8, by omega⟩) (choice (order V) n.val)) (tokens V ⟨n.val / 8, by omega⟩)
        (up V (choice (order V) n.val)) (down V (choice (order V) n.val)) d else 0 := by
  have hg := gather_slots (answers V) (places V) n d (choice (order V) n.val) ⟨min (n.val / 8) 511, by omega⟩ (places_expert V n) (places_slot V n)
  have hm : spread (res_main_v52 V) (ix2 n d) = (if n.val / 8 < 512 then 1 else 0 : EReal) :=
    (spread_at _ n d).trans (v52_at _ (order_bijective V) V (v23_at V) n)
  refine (congrArg₂ (· * ·) hg hm).trans ?_
  by_cases ht : n.val / 8 < 512
  · rw [if_pos ht, if_pos ht, mul_one, answers_at V h]
    have hs : (⟨min (n.val / 8) 511, by omega⟩ : Fin 4096) = ⟨n.val / 8, by omega⟩ := Fin.ext (by show min (n.val / 8) 511 = n.val / 8; omega)
    rw [hs]
  · rw [if_neg ht, if_neg ht, mul_zero]

/-- The returned rows, added up at their tokens. -/
def gathered : FVec Ideal S4096x1024 .f32 :=
  Host.scatterAdd rowScatter (broadcastInDim S4096x1024 ![] bcast_S_S4096x1024 (constant S_ .f32 0x00000000#32))
    (columnOf (wrapped 4096#32 (res_main_v54 V))) (returned V)

/-- Their entries: the routed network within capacity, zero beyond it. -/
theorem gathered_at (h : NoBias V) (t : Fin 4096) (d : Fin 1024) :
    gathered V (ix2 t d) = if t.val < 512 then Model.layer (tokens V t) (gate V) (up V) (down V) d else 0 := by
  have hland : ∀ (n : Fin 32768) (c : Fin 1024), rowScatter.resultIdx? (ix2 n c) (columnOf (wrapped 4096#32 (res_main_v54 V))) = some (ix2 t d)
      ↔ n.val / 8 = t.val ∧ c = d := fun n c =>
    lands_row _ n c (n.val / 8) (by omega) ((columnOf_at _ _).trans (wrapped_at _ _ _ _ (by omega) (v54_at V n))) t d
  unfold gathered
  rw [scatterAdd_zeros _ _ _ _ _ Ideal.ofBits_zero_f32]
  have hsum : (∑ j ∈ Finset.univ.filter (fun j => rowScatter.resultIdx? j (columnOf (wrapped 4096#32 (res_main_v54 V))) = some (ix2 t d)), returned V j : EReal)
      = ∑ e : Fin 8, returned V (ix2 (chosen V t e) d) := by
    refine (Finset.sum_bij (fun e _ => ix2 (chosen V t e) d) (fun e _ => ?_) (fun e _ e' _ hee => ?_) (fun j hj => ?_) fun _ _ => rfl).symm
    · exact Finset.mem_filter.2 ⟨Finset.mem_univ _, (hland _ _).2 ⟨chosen_token V t e, rfl⟩⟩
    · have hc : chosen V t e = chosen V t e' := congrFun hee 0
      rw [← chosen_expert V t e, hc, chosen_expert]
    · obtain ⟨n, c, rfl⟩ : ∃ n c, j = ix2 n c := ⟨j 0, j 1, (ix2_eta j).symm⟩
      obtain ⟨hn, rfl⟩ := (hland n c).1 (Finset.mem_filter.1 hj).2
      exact ⟨choice (order V) n.val, Finset.mem_univ _, by rw [← eq_chosen V n t hn]⟩
  rw [hsum]
  have hentry : ∀ e : Fin 8, returned V (ix2 (chosen V t e) d)
      = if t.val < 512 then Model.expert (Model.weight (logits V t) e) (tokens V t) (up V e) (down V e) d else 0 := fun e => by
    have ht := chosen_token V t e
    have ht' : (⟨(chosen V t e).val / 8, by omega⟩ : Fin 4096) = t := Fin.ext ht
    rw [returned_at V h, ht', chosen_expert, ht]
  simp only [hentry]
  by_cases h512 : t.val < 512
  · simp only [if_pos h512]
    rfl
  · simp only [if_neg h512, Finset.sum_const_zero]

end Cert.ReferenceIdeal.Hand

end
-- ==== Proof.RefBalance.lean ====
/- The reference's second result: every token's mask is full, so the load balance's divergence is zero. -/
module

public import proofs.«01_k».proof.Proof.RefRows
public import Idealize.ShloMosaic.Lib.Routing.OpsSet

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo

variable (V : Valuation τ sig (Elt Ideal))

/-- Every entry of the mask is one. -/
theorem mask_at (t : Fin 4096) (e : Fin 8) : (res_main_v172 V : FVec Ideal S4096x8 .f32) (ix2 t e) = (1 : EReal) := by
  have hland : ∀ n : Fin 32768, maskScatter.resultIdx? (ix1 n) (pairOf (wrapped 4096#32 (res_main_v157 V)) (wrapped 8#32 (res_main_v23 V))) = some (ix2 t e)
      ↔ n.val / 8 = t.val ∧ (choice (order V) n.val).val = e.val := fun n =>
    lands_mask _ n _ _ (by omega) (by omega) ((pairOf_fst _ _ n).trans (wrapped_at _ _ n _ (by omega) (v157_at V n)))
      ((pairOf_snd _ _ n).trans (wrapped_at _ _ n _ (by omega) (v23_at V n))) t e
  exact Routing.scatter_set_hit maskScatter _ _ _ (ix2 t e) (1 : EReal) (fun _ _ => Ideal.ofBits_one_f32) (ix1 (chosen V t e))
    ((hland _).2 ⟨chosen_token V t e, congrArg Fin.val (chosen_expert V t e)⟩)

/-- The divergence of the target distribution `p` from the experts' shares of a mask, times a constant. -/
def balance (p : FVec Ideal S8 .f32) (k : FVec Ideal S4096x8 .f32) : FVec Ideal S_ .f32 :=
  mulf (constant S_ .f32 0x3C23D70A#32) (Host.reduceAdd (mulf p (subf (Host.log p)
    (Host.log (Host.divf (Host.reduceAdd k (constant S_ .f32 0x00000000#32) reducesTo_S4096x8_S8_d0 h_S_)
      (broadcastInDim S8 ![] bcast_S_S8 (Host.reduceAdd k (constant S_ .f32 0x00000000#32) reducesTo_S4096x8_S_d0_1 h_S_))))))
    (constant S_ .f32 0x00000000#32) reducesTo_S8_S_d0 h_S_)

/-- A sum of ones. -/
theorem sum_ones (n : ℕ) : (∑ _i : Fin n, (1 : EReal)) = ((n : ℝ) : EReal) := by
  simp

/-- With a full mask and the even target, the divergence is zero. -/
theorem balance_at (p : FVec Ideal S8 .f32) (hp : ∀ e, p (ix1 e) = Ideal.ofBits .f32 0x3E000000#32) (k : FVec Ideal S4096x8 .f32)
    (hk : ∀ t e, k (ix2 t e) = (1 : EReal)) : balance p k ix0 = (0 : EReal) := by
  have hlit : Ideal.ofBits .f32 0x3E000000#32 = ((1 / 8 : ℝ) : EReal) := by
    simp [Ideal.ofBits, Ideal.ieee, -EReal.coe_mul]
    norm_num
  unfold balance
  pointwise
  simp only [hp, hk, hlit]
  have hall : (∑ _t : Fin 4096, ∑ _e : Fin 8, (1 : EReal)) = ((32768 : ℝ) : EReal) := by
    rw [← Fintype.sum_prod_type' (fun (_ : Fin 4096) (_ : Fin 8) => (1 : EReal)), ← Equiv.sum_comp finProdFinEquiv.symm, sum_ones]
    norm_num
  have hdiv : Ideal.div (∑ _t : Fin 4096, (1 : EReal)) (∑ _t : Fin 4096, ∑ _e : Fin 8, (1 : EReal)) = ((1 / 8 : ℝ) : EReal) := by
    rw [hall, sum_ones, Model.div_real _ _ (by norm_num)]
    norm_num
  have hlog : Ideal.log ((1 / 8 : ℝ) : EReal) = ((Real.log (1 / 8) : ℝ) : EReal) := if_neg (by norm_num)
  rw [hdiv, hlog, ← EReal.coe_sub, sub_self]
  simp

/-- The reference's second result is zero. -/
theorem balance_zero : balance (res_main_v177 V) (res_main_v172 V) = fun _ => (0 : EReal) := by
  refine funext fun i => ?_
  rw [show i = ix0 from funext fun a => a.elim0]
  exact balance_at _ (fun _ => rfl) _ (mask_at V)

end Cert.ReferenceIdeal.Hand

end
-- ==== Proof.Bias.lean ====
/- What the precondition says of the launch memory: every entry of the three bias arrays is zero. -/
module

public import proofs.«01_k».proof.Pre_zero_biases
public import Idealize.ShloMosaic.Lib.ReduceAll
public import Idealize.ShloMosaic.PureOps.Ideal.Laws

@[expose] public section

set_option maxRecDepth 16384

noncomputable section

namespace Cert.Pre_zero_biases.Hand

open Cert.Pre_zero_biases
open Idealize.ShloMosaic

/-- The shape facts the precondition is stated over. -/
instance facts : Cert.Pre_zero_biases.Facts where
  bcast_S_S8 := by decide
  reducesTo_S8_S_d0 := by decide
  h_S_ := by decide
  bcast_S_S8x2048 := by decide
  reducesTo_S8x2048_S_d0_1 := by decide
  bcast_S_S8x1024 := by decide
  reducesTo_S8x1024_S_d0_1 := by decide

/-- A number found equal to the zero pattern is zero. -/
theorem zero_of_oeq (x : EReal) (h : Ideal.cmp .oeq x (Ideal.ofBits FTy.f32 0x00000000#32) = 1#1) : x = 0 := by
  rw [Ideal.ofBits_zero_f32] at h
  by_contra hx
  revert h
  simp [Ideal.cmp, hx]

/-- If the precondition holds, every entry of the three bias arrays is zero. -/
theorem entries (x : FVec Ideal S2x2048x1024 .f32) (g : FVec Ideal S8x1024 .f32) (gb : FVec Ideal S8 .f32) (w1 : FVec Ideal S8x2048x1024 .f32)
    (b1 : FVec Ideal S8x2048 .f32) (w2 : FVec Ideal S8x1024x2048 .f32) (b2 : FVec Ideal S8x1024 .f32)
    (h : fn (F := Ideal) x g gb w1 b1 w2 b2 = fun _ => 1#1) :
    (∀ i, gb i = (0 : EReal)) ∧ (∀ i, b1 i = (0 : EReal)) ∧ (∀ i, b2 i = (0 : EReal)) := by
  have e := congrFun h (fun a => a.elim0)
  have hs : Subsingleton S_.Idx := ⟨fun a b => funext fun k => k.elim0⟩
  obtain ⟨e12, e3⟩ := IntOp.andi_eq_one.1 e
  obtain ⟨e1, e2⟩ := IntOp.andi_eq_one.1 e12
  exact ⟨fun i => zero_of_oeq _ (Host.reduce_andi_all _ _ _ _ _ e1 i), fun i => zero_of_oeq _ (Host.reduce_andi_all _ _ _ _ _ e2 i),
    fun i => zero_of_oeq _ (Host.reduce_andi_all _ _ _ _ _ e3 i)⟩

end Cert.Pre_zero_biases.Hand

end
-- ==== Proof.Same.lean ====
/- The kernel's and the reference's results are the same arrays. -/
module

public import proofs.«01_k».proof.Proof.KernelEntry
public import proofs.«01_k».proof.Proof.RefAnswer
public import proofs.«01_k».proof.Proof.RefBalance
public import proofs.«01_k».proof.Proof.Bias
public import proofs.«01_k».proof.Defs

@[expose] public section

set_option maxRecDepth 16384

noncomputable section

namespace Cert.Same

open Idealize.ShloMosaic Idealize.ShloMosaic.TcCoe Idealize.ShloMosaic.StableHlo
open Idealize.SL Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- On one device, the two launch memories hold the same arguments. -/
abbrev Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

/-- Under the precondition the reference's three biases are zero. -/
theorem no_bias (c : Dev Cert.KernelIdeal.nD) (hm : Agree m m' c) (hp : Cert.Pre_KernelIdeal_zero_biases m) :
    Cert.ReferenceIdeal.Hand.NoBias (launchContents m' c) := by
  obtain ⟨-, -, h2, -, h4, -, h6⟩ := hm
  obtain ⟨e2, e4, e6⟩ := Cert.Pre_zero_biases.Hand.entries _ _ _ _ _ _ _ (hp c)
  exact ⟨fun e => (congrFun h2 _).trans (e2 (ix1 e)), fun e f => (congrFun h4 _).trans (e4 (ix2 e f)),
    fun e d => (congrFun h6 _).trans (e6 (ix2 e d))⟩

/-- The two output arrays hold the same numbers, token by token. -/
theorem outputs (c : Dev Cert.KernelIdeal.nD) (hm : Agree m m' c) (hp : Cert.Pre_KernelIdeal_zero_biases m) :
    (Cert.ReferenceIdeal.Hand.gathered (launchContents m' c) : FVec Ideal Cert.KernelIdeal.S4096x1024 .f32)
      = Cert.KernelIdeal.Hand.outArray m c := by
  have hb := no_bias m m' c hm hp
  obtain ⟨h0, h1, -, h3, -, h5, -⟩ := hm
  have e0 : Cert.ReferenceIdeal.Hand.tokens (launchContents m' c) = Cert.KernelIdeal.Hand.tokens m c :=
    funext fun t => funext fun k => congrFun h0 _
  have e1 : Cert.ReferenceIdeal.Hand.gate (launchContents m' c) = Cert.KernelIdeal.Hand.gate m c :=
    funext fun e => funext fun k => congrFun h1 _
  have e3 : Cert.ReferenceIdeal.Hand.up (launchContents m' c) = Cert.KernelIdeal.Hand.up m c :=
    funext fun e => funext fun f => funext fun k => congrFun h3 _
  have e5 : Cert.ReferenceIdeal.Hand.down (launchContents m' c) = Cert.KernelIdeal.Hand.down m c :=
    funext fun e => funext fun d => funext fun f => congrFun h5 _
  have key : ∀ (t : Fin 4096) (d : Fin 1024),
      Cert.ReferenceIdeal.Hand.gathered (launchContents m' c) (ix2 t d) = Cert.KernelIdeal.Hand.outArray m c (ix2 t d) := fun t d => by
    rw [Cert.ReferenceIdeal.Hand.gathered_at _ hb, Cert.KernelIdeal.Hand.outArray_at, e0, e1, e3, e5]
  exact funext fun i => by
    rw [show i = ix2 (i 0) (i 1) from funext fun a => by fin_cases a <;> rfl]
    exact key (i 0) (i 1)

end Cert.Same

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelWords
public import proofs.«01_k».proof.Proof.Same
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments as they were, and has no counter to move. -/
theorem reference_frame : Cert.quiescent_ReferenceIdeal (hReferenceIdeal := Cert.ReferenceIdeal.Gen.facts) := fun m g _ =>
  (θ_run _ _ _).mono (fun r h => ⟨fun c => (h c).2.2, sem_eq_zero_of_no_sems rfl r.2⟩) (Cert.ReferenceIdeal.Value.run m g)

/-- From the same arguments, with zero biases, kernel and reference end with the same two results. -/
theorem same_results : Cert.algebraic_KernelIdeal_ReferenceIdeal_pre_zero_biases (hKernelIdeal := Cert.KernelIdeal.Gen.facts)
    (hReferenceIdeal := Cert.ReferenceIdeal.Gen.facts) (hPre_zero_biases := Cert.Pre_zero_biases.Hand.facts) := fun m g m' g' hp hm => by
  refine ⟨fun c => shapeCast Cert.KernelIdeal.S2x2048x1024 (Cert.KernelIdeal.Hand.outArray m c) Cert.KernelIdeal.Gen.shapeCasts_S4096x1024_S2x2048x1024,
    fun c => (constant (F := Ideal) Cert.KernelIdeal.S_ .f32 0x00000000#32 : FVec Ideal Cert.KernelIdeal.S_ .f32), ?_, ?_⟩
  · exact (θ_run _ _ _).mono (fun r h c => ⟨(h.1 c).1, (h.1 c).2, h.2.1 c⟩)
      (θ_run_and (Cert.KernelIdeal.Hand.run_value m g) (Cert.KernelIdeal.Hand.frame m g))
  · refine (θ_run _ _ _).mono (fun r h c => ⟨(h c).1.trans ?_, (h c).2.1.trans ?_, (h c).2.2⟩) (Cert.ReferenceIdeal.Value.run m' g')
    · exact congrArg (fun X : FVec Ideal Cert.KernelIdeal.S4096x1024 .f32 =>
        shapeCast Cert.KernelIdeal.S2x2048x1024 X Cert.KernelIdeal.Gen.shapeCasts_S4096x1024_S2x2048x1024) (Cert.Same.outputs m m' c (hm c) hp)
    · exact (Cert.ReferenceIdeal.Hand.balance_zero (StableHlo.launchContents m' c)).trans (funext fun _ => Ideal.ofBits_zero_f32.symm)

/-- All the claims together. -/
theorem claim : Cert.Claim :=
  ⟨Cert.Kernel.Gen.facts, Cert.KernelIdeal.Gen.facts, Cert.ReferenceIdeal.Gen.facts, Cert.Pre_zero_biases.Hand.facts,
    Cert.Kernel.Hand.frame,
    fun m ρ _ => Cert.KernelIdeal.Hand.frame m ρ,
    fun m ρ _ => Cert.KernelIdeal.Hand.frame m ρ,
    reference_frame,
    fun m ρ _ => reference_frame m ρ trivial,
    trivial,
    same_results⟩

end Cert.Proof

end
